-- ==== Defs.lean ====
def Pre_Kernel [hPre_swap_Kernel : Cert.Pre_swap_Kernel.Facts] (m : (ℓ : Loc Cert.Kernel.nD Cert.Kernel.τ Cert.Kernel.sig) → Buf (Elt Bits) ℓ) : Prop :=
  ∀ c : Dev Cert.Kernel.nD,
    (Cert.Pre_swap_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_stay_Kernel [hPre_stay_Kernel : Cert.Pre_stay_Kernel.Facts] (m : (ℓ : Loc Cert.Kernel.nD Cert.Kernel.τ Cert.Kernel.sig) → Buf (Elt Bits) ℓ) : Prop :=
  ∀ c : Dev Cert.Kernel.nD,
    (Cert.Pre_stay_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_swap_Kernel : Cert.Pre_swap_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_swap_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_stay_Kernel [hPre_stay_Kernel : Cert.Pre_stay_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_stay_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_swap_ReferenceIdeal [hPre_swap_ReferenceIdeal : Cert.Pre_swap_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_swap_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_stay_ReferenceIdeal [hPre_stay_ReferenceIdeal : Cert.Pre_stay_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_stay_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_swap_Kernel : Cert.Pre_swap_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_stay_Kernel [hKernel : Cert.Kernel.Facts] [hPre_stay_Kernel : Cert.Pre_stay_Kernel.Facts] : Prop :=
  ∀ (m : (ℓ : Loc Cert.Kernel.nD Cert.Kernel.τ Cert.Kernel.sig) → Buf (Elt Bits) ℓ) (g : Dev Cert.Kernel.nD → PrngReg), Pre_Kernel_stay_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_swap_Kernel : Cert.Pre_swap_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_stay_Kernel [hKernelIdeal : Cert.KernelIdeal.Facts] [hPre_stay_Kernel : Cert.Pre_stay_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_stay_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_swap_ReferenceIdeal [hReferenceIdeal : Cert.ReferenceIdeal.Facts] [hPre_swap_ReferenceIdeal : Cert.Pre_swap_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_swap_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_stay_ReferenceIdeal [hReferenceIdeal : Cert.ReferenceIdeal.Facts] [hPre_stay_ReferenceIdeal : Cert.Pre_stay_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_stay_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_swap_Kernel : Cert.Pre_swap_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![2, 256, 256]⟩ (Layout.meshBlock [2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![2, 256, 256]⟩ (Layout.meshBlock [2, 2] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_stay_Kernel [hKernelIdeal : Cert.KernelIdeal.Facts] [hReferenceIdeal : Cert.ReferenceIdeal.Facts] [hPre_stay_Kernel : Cert.Pre_stay_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_stay_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![2, 256, 256]⟩ (Layout.meshBlock [2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![2, 256, 256]⟩ (Layout.meshBlock [2, 2] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_swap_Kernel : Cert.Pre_swap_Kernel.Facts) (hPre_stay_Kernel : Cert.Pre_stay_Kernel.Facts) (hPre_swap_ReferenceIdeal : Cert.Pre_swap_ReferenceIdeal.Facts) (hPre_stay_ReferenceIdeal : Cert.Pre_stay_ReferenceIdeal.Facts),
    quiescent_Kernel (hKernel := hKernel) (hPre_swap_Kernel := hPre_swap_Kernel)
    ∧ quiescent_Kernel_pre_stay_Kernel (hKernel := hKernel) (hPre_stay_Kernel := hPre_stay_Kernel)
    ∧ quiescent_KernelIdeal (hKernelIdeal := hKernelIdeal) (hPre_swap_Kernel := hPre_swap_Kernel)
    ∧ quiescent_KernelIdeal_pre_stay_Kernel (hKernelIdeal := hKernelIdeal) (hPre_stay_Kernel := hPre_stay_Kernel)
    ∧ quiescent_ReferenceIdeal (hReferenceIdeal := hReferenceIdeal)
    ∧ quiescent_ReferenceIdeal_pre_swap_ReferenceIdeal (hReferenceIdeal := hReferenceIdeal) (hPre_swap_ReferenceIdeal := hPre_swap_ReferenceIdeal)
    ∧ quiescent_ReferenceIdeal_pre_stay_ReferenceIdeal (hReferenceIdeal := hReferenceIdeal) (hPre_stay_ReferenceIdeal := hPre_stay_ReferenceIdeal)
    ∧ preserves_Kernel_KernelIdeal
    ∧ algebraic_KernelIdeal_ReferenceIdeal (hKernelIdeal := hKernelIdeal) (hReferenceIdeal := hReferenceIdeal) (hPre_swap_Kernel := hPre_swap_Kernel)
    ∧ algebraic_KernelIdeal_ReferenceIdeal_pre_stay_Kernel (hKernelIdeal := hKernelIdeal) (hReferenceIdeal := hReferenceIdeal) (hPre_stay_Kernel := hPre_stay_Kernel)
-- ==== Pre_stay_Kernel.lean ====
abbrev S1x256x256 : Shape := ⟨3, ![1, 256, 256]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x256x256 .bf16) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_stay_ReferenceIdeal.lean ====
abbrev S2x256x256 : Shape := ⟨3, ![2, 256, 256]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x256x256 .bf16) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_swap_Kernel.lean ====
abbrev S1x256x256 : Shape := ⟨3, ![1, 256, 256]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x256x256 .bf16) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Pre_swap_ReferenceIdeal.lean ====
abbrev S2x256x256 : Shape := ⟨3, ![2, 256, 256]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x256x256 .bf16) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Kernel.lean ====
abbrev S1x256x256 : Shape := ⟨3, ![1, 256, 256]⟩
abbrev S2 : Shape := ⟨1, ![2]⟩
abbrev S_ : Shape := ⟨0, ![]⟩
abbrev S1 : Shape := ⟨1, ![1]⟩

abbrev nBuf : Space → Nat
  | .hbm => 3
  | .vmem => 2
  | .smem => 1
  | _ => 0

abbrev bufTy : (tb : Table) → Fin (tcTables nBuf tb) → BufTy
  | .hbm, ⟨0, _⟩ => ⟨S1x256x256, .bf16⟩
  | .hbm, ⟨1, _⟩ => ⟨S2, .i32⟩
  | .hbm, ⟨2, _⟩ => ⟨S1x256x256, .bf16⟩
  | .local _ .vmem, ⟨0, _⟩ => ⟨S1x256x256, .bf16⟩
  | .local _ .vmem, ⟨1, _⟩ => ⟨S1x256x256, .bf16⟩
  | .local _ .smem, ⟨0, _⟩ => ⟨S2, .i32⟩
  | _, _ => ⟨S1x256x256, .bf16⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 1 → Bool
  | ⟨0, _⟩ => false
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  (ofTc nBuf bufTy 1 5 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_stg1_0 : Ref sig .tc := ⟨.smem, 0, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_off1 (d0 : Dev nD) : Fin 1 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : Index := Scalar.indexCast v5
  ![v6.toNat]
def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v10 : BitVec 32 := Scalar.muli v2 c2_i32_4
  let v11 : BitVec 32 := Scalar.addi c0_i32 v10
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_2 v5
  let c1_i32_5 : BitVec 32 := 1#32
  let v12 : BitVec 32 := Scalar.muli v9 c1_i32_5
  let v13 : BitVec 32 := Scalar.addi v11 v12
  v13.toNat
def k0_dev2 (d0 : Dev nD) (v7 : BitVec 32) : Nat :=
  let c0_i32_15 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_14 : BitVec 32 := 2#32
  let v25 : BitVec 32 := Scalar.muli v2 c2_i32_14
  let v26 : BitVec 32 := Scalar.addi c0_i32_15 v25
  let c1_i32_16 : BitVec 32 := 1#32
  let v27 : BitVec 32 := Scalar.muli v7 c1_i32_16
  let v28 : BitVec 32 := Scalar.addi v26 v27
  v28.toNat
def k0_cond2 (d0 : Dev nD) (v7 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v22 : BitVec 1 := Scalar.cmpi .ne v7 v5
  let v23 : BitVec 32 := Scalar.extui v22
  let c0_i32_13 : BitVec 32 := 0#32
  let v24 : BitVec 1 := Scalar.cmpi .ne v23 c0_i32_13
  v24

def k0_chk1 (d0 : Dev nD) (v7 : BitVec 32) : Prop :=
  (∀ (k0_h2 : k0_cond2 d0 v7 = 1#1), (k0_dev2 d0 v7) < nD)
theorem k0_dev2_lt : ∀ (d0 : Dev nD) (v7 : BitVec 32) (k0_hw1 : k0_chk1 d0 v7), ∀ (k0_h2 : k0_cond2 d0 v7 = 1#1), (k0_dev2 d0 v7) < nD := fun d0 v7 k0_hw1 k0_h2 => k0_hw1 k0_h2

abbrev stage0_0 : Fin 1 → Memref sig .tc .vmem S1x256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S2 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x256x256 : Shape := ⟨3, ![2, 256, 256]⟩
abbrev S2 : Shape := ⟨1, ![2]⟩
abbrev S_ : Shape := ⟨0, ![]⟩
abbrev S2x1 : Shape := ⟨2, ![2, 1]⟩

abbrev nBuf : Space → Nat
  | .hbm => 16
  | .vmem => 0
  | .smem => 0
  | _ => 0

abbrev bufTy : (tb : Table) → Fin (tcTables nBuf tb) → BufTy
  | .hbm, ⟨0, _⟩ => ⟨S2x256x256, .bf16⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x256x256, .bf16⟩
  | .hbm, ⟨14, _⟩ => ⟨S2x256x256, .f32⟩
  | .hbm, ⟨15, _⟩ => ⟨S2x256x256, .bf16⟩
  | _, _ => ⟨S2x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Proof.Protocol.lean ====
/-
The protocol by which the four devices exchange their blocks, stated over any float values.

The mesh is two by two; device `c` has row `c / 2` and column `c % 2`, and its *partner* is the other device of its
row. A Boolean `sw` says which of the two permutations of two columns the run is about: with `sw = true` every device's
block belongs to its partner (the devices SWAP), with `sw = false` it belongs to the device itself (the devices STAY).

Four semaphores a device take part. The runtime's barrier semaphore receives one unit from the partner; a swap's
signal hands over the partner's result buffer, so that a block may be written into it. The send and the receive
semaphore of a swap return the sent buffer to its owner and hand the filled result buffer to the receiver. The local
semaphore of a stay returns both buffers of the device's own copy.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: one copy of the rounds algebra for the pipeline's own cells, one for the exchange's. -/
abbrev UU : Type := UR sig nD τ × UR sig nD τ

local notation "𝕄" => MT nD τ sig Unit (Elt F) ℕ UU ℕ

/-- The pipeline's copy, -/
abbrev EP : Emb (UR sig nD τ) (MT nD τ sig Unit (Elt F) ℕ UU ℕ) := embL
/-- and the exchange's. -/
abbrev EX : Emb (UR sig nD τ) (MT nD τ sig Unit (Elt F) ℕ UU ℕ) := embR

/-! ## Partners -/

set_option backward.proofsInPublic true in
/-- The other device of `c`'s row. -/
def partner (c : Dev nD) : Dev nD := ⟨2 * (c.val / 2) + 1 - c.val % 2, by revert c; decide⟩

/-- Partners are each other's partner. -/
theorem partner_partner (c : Dev nD) : partner (partner c) = c := by revert c; decide

/-- Exchanging partners as a permutation of the devices. -/
def partners : Dev nD ≃ Dev nD := ⟨partner, partner, partner_partner, partner_partner⟩

/-- A device is the partner of `c` exactly if `c` is its partner. -/
theorem eq_partner_iff {c d : Dev nD} : (c = partner d) ↔ (d = partner c) :=
  ⟨fun h => by rw [h, partner_partner], fun h => by rw [h, partner_partner]⟩

/-- The device whose block ends up on `c`. -/
def origin (sw : Bool) (c : Dev nD) : Dev nD := if sw then partner c else c

/-- The device that the body signals is the partner. -/
theorem signalled_eq (c : Dev nD) : (⟨k0_dev1 c, k0_dev1_lt c⟩ : Dev nD) = partner c := Fin.ext (k0_dev1_eq c)

/-! ## The word of the table that a device reads -/

/-- What a device finds at its own column in the permutation. -/
def target (sw : Bool) (c : Dev nD) : BitVec 32 := BitVec.ofNat 32 (if sw then 1 - c.val % 2 else c.val % 2)

/-- The body's test for a block that stays, as it computes it from the word. -/
abbrev stayTest (c : Dev nD) (w : BitVec 32) : BitVec 1 :=
  Scalar.cmpi .ne (Scalar.extui (Scalar.cmpi .eq w (Scalar.remsi (Scalar.divsi (Dev.word c) 1#32) 2#32))) 0#32

/-- The test holds in a stay, -/
theorem stayTest_stay (c : Dev nD) : stayTest c (target false c) = 1#1 := by revert c; decide +kernel
/-- and fails in a swap. -/
theorem stayTest_swap (c : Dev nD) : ¬ stayTest c (target true c) = 1#1 := by revert c; decide +kernel
/-- The test for a block that moves holds in a swap, -/
theorem moveTest_swap (c : Dev nD) : k0_cond2 c (target true c) = 1#1 := by revert c; decide +kernel
/-- and fails in a stay. -/
theorem moveTest_stay (c : Dev nD) : ¬ k0_cond2 c (target false c) = 1#1 := by revert c; decide +kernel
/-- A swap's transfer is addressed to the partner. -/
theorem addressed_swap (c : Dev nD) : k0_dev2 c (target true c) = (partner c).val := by revert c; decide +kernel
/-- The device addressed is one of the mesh. -/
theorem target_ok (sw : Bool) (c : Dev nD) : k0_chk1 c (target sw c) := by
  cases sw
  · intro h; exact absurd h (moveTest_stay c)
  · intro _; rw [addressed_swap]; exact (partner c).isLt

/-! ## Buffers and semaphores -/

/-- The staged block of `x`, -/
abbrev xM : Memref sig .tc .vmem S1x256x256 .bf16 := Memref.whole cc0_stg0_0
/-- the staged permutation, -/
abbrev tM : Memref sig .tc .smem S2 .i32 := Memref.whole cc0_stg1_0
/-- the buffer that transfers read, -/
abbrev bM : Memref sig .tc .vmem S1x256x256 .bf16 := Memref.whole cc0_scratch0
/-- and the result. -/
abbrev oM : Memref sig .tc .hbm S1x256x256 .bf16 := Memref.whole main_v1

/-- The runtime's barrier semaphore. -/
abbrev barS : SemLoc sig := .reg (SemArray.scalar (sig.barrier 0 rfl) : Sems sig S_).sem
/-- The semaphore that a transfer's source completes on, -/
abbrev sendS : SemLoc sig := .dma cc0_scratch1.sem
/-- the one its destination completes on, -/
abbrev recvS : SemLoc sig := .dma cc0_scratch2.sem
/-- and the one of the copy within a device. -/
abbrev selfS : SemLoc sig := .dma cc0_scratch3.sem

/-- The four semaphores, numbered. -/
abbrev semOf : Fin 4 → SemLoc sig := fun | 0 => barS | 1 => sendS | 2 => recvS | 3 => selfS
/-- The kernel's own three: all but the barrier's. -/
abbrev ownSem : Fin 3 → SemLoc sig := fun | 0 => sendS | 1 => recvS | 2 => selfS
/-- Semaphore `k` of device `c`. -/
abbrev cell (c : Dev nD) (k : Fin 4) : GSem nD τ sig := ((c : Thread nD τ), semOf k)

/-- What a whole block credits a semaphore with. -/
abbrev N : ℕ := (oM : Memref sig .tc .hbm S1x256x256 .bf16).view.dmaCredit
/-- A block's credit is positive. -/
theorem N_pos : 0 < N := View.dmaCredit_pos _ (by decide)

/-- Numbered differently, the semaphores are different. -/
theorem semOf_injective : Function.Injective semOf := by
  intro k l h; fin_cases k <;> fin_cases l <;> first | rfl | exact absurd h (by decide)

/-- Different numbers are different semaphores, -/
theorem semOf_eq_iff {k l : Fin 4} : (semOf k = semOf l) ↔ (k = l) := semOf_injective.eq_iff

/-- The cells of all devices are different. -/
theorem cell_injective : Function.Injective fun ck : Dev nD × Fin 4 => cell ck.1 ck.2 := by
  rintro ⟨c, k⟩ ⟨d, l⟩ h
  have hc : c = d := congrArg (fun g : GSem nD τ sig => g.1.1) h
  have hk : k = l := semOf_injective (congrArg Prod.snd h)
  rw [hc, hk]

/-- and different cells. -/
theorem cell_eq_iff {c d : Dev nD} {k l : Fin 4} : (cell c k = cell d l) ↔ (c = d ∧ k = l) :=
  ⟨fun h => Prod.ext_iff.mp (cell_injective (a₁ := (c, k)) (a₂ := (d, l)) h), fun h => by rw [h.1, h.2]⟩

/-! ## Contents -/

variable (m : (ℓ : Loc nD τ sig) → Buf (Elt F) ℓ) (ρ : Dev nD → PrngReg)

/-- The memory at launch: any contents, every counter zero. -/
def s₀ : MemSt nD τ sig (Elt F) := ⟨m, fun _ => 0, ρ⟩

/-- Device `c`'s block of `x`, as staged. -/
def xAt (c : Dev nD) : (cc0_stg0_0 : Ref sig .tc).ty.Contents (Elt F) :=
  (win0_0.blk (0 : Fin 1)).view.read (Elt F) ((s₀ m ρ).mem ((c : Thread nD τ).loc main_arg0))

/-- Device `c`'s copy of the permutation, as staged. -/
def tAt (c : Dev nD) : (cc0_stg1_0 : Ref sig .tc).ty.Contents (Elt F) :=
  (win0_1.blk (0 : Fin 1)).view.read (Elt F) ((s₀ m ρ).mem ((c : Thread nD τ).loc main_arg1))

/-- What the body puts into the buffer that transfers read. -/
def sent (c : Dev nD) : (cc0_scratch0 : Ref sig .tc).ty.Contents (Elt F) := k0_pay1 (xAt m ρ c)

/-- What the result of device `c` holds at the end: the block sent by its origin. -/
def result (sw : Bool) (c : Dev nD) : (main_v1 : Ref sig .tc).ty.Contents (Elt F) := sent m ρ (origin sw c)

/-- The result buffer of device `c`, whole. -/
def outPts (c : Dev nD) (f : Buf (Elt F) ((oM : Memref sig .tc .hbm S1x256x256 .bf16).view.loc (c : Thread nD τ))) : sProp 𝕄 :=
  (oM : Memref sig .tc .hbm S1x256x256 .bf16).view.loc (c : Thread nD τ) ↦[(oM : Memref sig .tc .hbm S1x256x256 .bf16).view.set]{fullShare} f
/-- The buffer of device `c` that transfers read, whole. -/
def bufPts (c : Dev nD) (f : Buf (Elt F) ((bM : Memref sig .tc .vmem S1x256x256 .bf16).view.loc (c : Thread nD τ))) : sProp 𝕄 :=
  (bM : Memref sig .tc .vmem S1x256x256 .bf16).view.loc (c : Thread nD τ) ↦[(bM : Memref sig .tc .vmem S1x256x256 .bf16).view.set]{fullShare} f

omit [FloatOps F] in
instance outPts_storable (c : Dev nD) (f) : BI.Storable (upEmb : UEmb _ 𝕄) (outPts (F := F) c f) := by unfold outPts; infer_instance
omit [FloatOps F] in
instance bufPts_storable (c : Dev nD) (f) : BI.Storable (upEmb : UEmb _ 𝕄) (bufPts (F := F) c f) := by unfold bufPts; infer_instance

omit [FloatOps F] in
/-- The two as plain ownership of the buffer. -/
theorem outPts_eq (c : Dev nD) (f : Buf (Elt F) ((c : Thread nD τ).loc main_v1)) :
    outPts c f = (((c : Thread nD τ).loc main_v1) ↦{fullShare} f : sProp 𝕄) := by unfold outPts; rw [View.set_whole]
omit [FloatOps F] in
/-- The same of the buffer that is sent. -/
theorem bufPts_eq (c : Dev nD) (f : Buf (Elt F) ((c : Thread nD τ).loc cc0_scratch0)) :
    bufPts c f = (((c : Thread nD τ).loc cc0_scratch0) ↦{fullShare} f : sProp 𝕄) := by unfold bufPts; rw [View.set_whole]

omit [FloatOps F] in
/-- A block written over a whole result buffer replaces what it held. -/
theorem written_eq (c : Dev nD) (fd : Buf (Elt F) ((oM : Memref sig .tc .hbm S1x256x256 .bf16).view.loc (c : Thread nD τ)))
    (fs : (cc0_scratch0 : Ref sig .tc).ty.Contents (Elt F)) :
    (oM : Memref sig .tc .hbm S1x256x256 .bf16).view.write (Elt F) fd ((bM : Memref sig .tc .vmem S1x256x256 .bf16).view.read (Elt F) fs) Finset.univ = fs := by
  show (View.whole main_v1).write (Elt F) fd ((View.whole cc0_scratch0).read (Elt F) fs) Finset.univ = fs
  rw [View.read_whole]
  exact View.write_whole_univ _ _ _

/-! ## The schedule of deliveries -/

/-- Which of a device's four semaphores are paid in a run: the barrier's always, the two of a transfer in a swap, the
    one of the copy within a device in a stay. -/
abbrev Paid (sw : Bool) (k : Fin 4) : Prop := k = 0 ∨ (if sw then k = 1 ∨ k = 2 else k = 3)

/-- What a payment to semaphore `k` of device `c` hands over. -/
def delivery (sw : Bool) (c : Dev nD) (k : Fin 4) : sProp 𝕄 := match k with
  | 0 => if sw then iprop((∃ f, outPts (partner c) f) ∗ reached EX (cell (partner c) 2) 0) else iprop(emp)
  | 1 => bufPts c (sent m ρ c)
  | 2 => outPts c (result m ρ sw c)
  | 3 => iprop(outPts c (result m ρ sw c) ∗ bufPts c (sent m ρ c))

instance delivery_storable (sw : Bool) (c : Dev nD) (k : Fin 4) :
    BI.Storable (upEmb : UEmb _ 𝕄) (delivery (F := F) m ρ sw c k) := by
  unfold delivery
  (repeat' split) <;> infer_instance

/-- The number of a semaphore, if it is one of the four. -/
def numOf (sm : SemLoc sig) : Option (Fin 4) :=
  if sm = semOf 0 then some 0 else if sm = semOf 1 then some 1 else if sm = semOf 2 then some 2 else if sm = semOf 3 then some 3 else none

/-- The number of a semaphore of the four is its own. -/
theorem numOf_semOf (k : Fin 4) : numOf (semOf k) = some k := by revert k; decide

/-- Every paid cell is paid once, in round 0: one unit for a barrier, a block's credit for the others. -/
def plan (sw : Bool) : Rounds.Schedule (GSem nD τ sig) Unit 𝕄 where
  duties g r := if r = 0 ∧ g.1.2 = .tc ∧ ∃ k, numOf g.2 = some k ∧ Paid sw k then {()} else ∅
  unitless _ := False
  amount g _ _ := if g.2 = semOf 0 then 1 else N
  payload g _ _ := match numOf g.2 with
    | some k => delivery m ρ sw g.1.1 k
    | none => iprop(emp)
  amount_pos g _ _ _ := by
    by_cases h : g.2 = semOf 0
    · rw [if_pos h]; exact Nat.one_pos
    · rw [if_neg h]; exact N_pos

instance plan_payload_storable (sw : Bool) (g : GSem nD τ sig) (r : ℕ) (d : Unit) :
    BI.Storable (upEmb : UEmb _ 𝕄) ((plan (F := F) m ρ sw).payload g r d) := by
  show BI.Storable upEmb (match numOf g.2 with
    | some k => delivery m ρ sw g.1.1 k
    | none => iprop(emp))
  split <;> infer_instance

section Facts
variable (sw : Bool) (c : Dev nD) (k : Fin 4)

/-- A paid cell has its one duty in round 0. -/
theorem duties_paid (h : Paid sw k) : (plan (F := F) m ρ sw).duties (cell c k) 0 = {()} := by
  dsimp only [plan]; exact if_pos ⟨rfl, rfl, k, numOf_semOf k, h⟩
/-- A cell that is not paid has none in any round. -/
theorem duties_unpaid (h : ¬ Paid sw k) : ∀ r, 0 ≤ r → (plan (F := F) m ρ sw).duties (cell c k) r = ∅ := by
  intro r _
  dsimp only [plan]
  rw [if_neg]
  rintro ⟨-, -, l, hl, hp⟩
  rw [show numOf (cell c k).2 = some k from numOf_semOf k] at hl
  exact h (Option.some.inj hl ▸ hp)
/-- No cell has a duty after round 0. -/
theorem duties_later (g : GSem nD τ sig) : ∀ r, 0 + 1 ≤ r → (plan (F := F) m ρ sw).duties g r = ∅ := by
  intro r hr
  dsimp only [plan]; exact if_neg fun h => by omega

/-- The unit of a barrier. -/
theorem amount_bar : (plan (F := F) m ρ sw).amount (cell c 0) 0 () = 1 := by dsimp only [plan]; exact if_pos rfl
/-- The credit of the others. -/
theorem amount_dma (h : k ≠ 0) : (plan (F := F) m ρ sw).amount (cell c k) 0 () = N := by
  dsimp only [plan]; exact if_neg fun h' => h (semOf_injective h')

/-- The barrier expects one unit, -/
theorem expect_bar : (plan (F := F) m ρ sw).expect (cell c 0) 0 = 1 := by
  unfold Schedule.expect Schedule.amountOf
  rw [duties_paid m ρ sw c 0 (Or.inl rfl), Finset.sum_singleton, amount_bar]
/-- a paid transfer semaphore a block's credit, -/
theorem expect_dma (h : k ≠ 0) (hp : Paid sw k) : (plan (F := F) m ρ sw).expect (cell c k) 0 = N := by
  unfold Schedule.expect Schedule.amountOf
  rw [duties_paid m ρ sw c k hp, Finset.sum_singleton, amount_dma m ρ sw c k h]

/-- and each cell hands over its delivery. -/
theorem payload_eq : (plan (F := F) m ρ sw).payload (cell c k) 0 () = delivery m ρ sw c k := by
  show (match numOf (semOf k) with
    | some k => delivery m ρ sw c k
    | none => iprop(emp)) = _
  rw [numOf_semOf]

/-- All that a paid cell's round hands over. -/
theorem handed (hp : Paid sw k) : bigSep ((plan (F := F) m ρ sw).duties (cell c k) 0 \ ∅) (fun d => (plan (F := F) m ρ sw).payload (cell c k) 0 d)
    = delivery m ρ sw c k := by
  rw [Finset.sdiff_empty, duties_paid m ρ sw c k hp, bigSep_singleton, payload_eq]

end Facts

/-! ## What a device owes, and the order of waits -/

/-- The credit that a device owes its partner's receive semaphore. -/
abbrev owedN (sw : Bool) : ℕ := if sw then N else 0

/-- What is left to pay once the partner is signalled, -/
def O₁ (sw : Bool) (c : Dev nD) : CellTallies nD τ sig Unit := tallyAt (cell (partner c) 2) () (owedN sw)
/-- and what a device owes at launch: the signal too. -/
def O₀ (sw : Bool) (c : Dev nD) : CellTallies nD τ sig Unit := O₁ sw c + tallyAt (cell (partner c) 0) () 1

/-- In a stay nothing is left. -/
theorem O₁_stay (c : Dev nD) : O₁ false c = 0 := by
  unfold O₁
  refine funext fun g => Finsupp.ext fun u => ?_
  rw [tallyAt_apply]
  split <;> rfl

/-- One level name for each cell of a TensorCore. -/
def L (g : GSem nD τ sig) : Finset Unit := if g.1.2 = .tc then {()} else ∅
/-- The order: barrier cells at level 1, receive cells at 2, every other one at 0. -/
def lv (g : GSem nD τ sig) (_ : Unit) : ℕ := if g.2 = semOf 0 then 1 else if g.2 = semOf 2 then 2 else 0

/-- Only the cells of a TensorCore have a level, -/
theorem L_of_ne (g : GSem nD τ sig) (h : g.1.2 ≠ .tc) : L g = ∅ := if_neg h
/-- and each of these has one. -/
theorem L_tc (c : Dev nD) (sm : SemLoc sig) : L ((c : Thread nD τ), sm) = {()} := if_pos rfl
/-- The barrier is below -/
theorem lv_bar (c : Dev nD) : lv (cell c 0) () = 1 := if_pos rfl
/-- the receive semaphore. -/
theorem lv_recv (c : Dev nD) : lv (cell c 2) () = 2 := by
  unfold lv
  rw [if_neg (fun h : semOf 2 = semOf 0 => absurd (semOf_injective h) (by decide)), if_pos rfl]

/-- Only the partner's receive cell is owed after the signal, -/
theorem O₁_pos {sw : Bool} {c : Dev nD} {g : GSem nD τ sig} {u : Unit} (h : 0 < O₁ sw c g u) : g = cell (partner c) 2 := by
  unfold O₁ at h; rw [tallyAt_apply] at h
  by_contra hn; rw [if_neg (fun h' => hn h'.1)] at h; exact Nat.lt_irrefl 0 h
/-- before it the partner's barrier cell too. -/
theorem O₀_pos {sw : Bool} {c : Dev nD} {g : GSem nD τ sig} {u : Unit} (h : 0 < O₀ sw c g u) : g = cell (partner c) 2 ∨ g = cell (partner c) 0 := by
  unfold O₀ at h
  rw [Pi.add_apply, Finsupp.add_apply, tallyAt_apply] at h
  by_contra hn
  rw [not_or] at hn
  rw [if_neg (fun h' => hn.2 h'.1), Nat.add_zero] at h
  exact hn.1 (O₁_pos h)

omit [FloatOps F] in
/-- A staging semaphore may be waited for while all of it is owed. -/
theorem mayWait_stage (sw : Bool) (c : Dev nD) (q : DmaSem sig) (hq : SemLoc.dma q ≠ semOf 2) (O : CellTallies nD τ sig Unit) (hO : O = O₀ sw c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · rw [lv_recv]; decide
        · rw [lv_bar]; decide)
  · rw [MayWait_zero]; iintro -; iempintro

omit [FloatOps F] in
/-- The barrier may be waited for while a receive credit is owed. -/
theorem mayWait_bar (sw : Bool) (c : Dev nD) : (levAts L lv : sProp 𝕄) ⊢ MayWait (c : Thread nD τ) barS () (O₁ sw c) :=
  MayOwe.of_cut (L := L) (lev := lv) 1 (fun p hp => by rw [Finset.mem_singleton.mp hp, L_tc]; exact Finset.mem_singleton_self _)
    (fun g u hg => by rw [O₁_pos hg, L_tc]; exact Finset.mem_singleton_self _)
    (fun p hp => by rw [Finset.mem_singleton.mp hp]; exact le_of_eq (lv_bar c))
    (fun g u hg => by rw [O₁_pos hg, lv_recv]; decide)

end Cert.Exchange

end
-- ==== Proof.Body.lean ====
/-
The kernel's body on one device, executed effect by effect from what the device holds when it starts to what it holds
when it ends, over any float values: the word of the permutation, the signal to the partner, the block copied into the
buffer that transfers read, and then either the copy within the device (a stay) or the transfer to the partner (a swap).
-/
module

public import proofs.«01_k».proof.Proof.Protocol
public import Idealize.ShloMosaic.Lib.Scf

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (sw : Bool)

abbrev 𝒱₀ : Variants := Variants.none

/-! ## The word that the body reads -/

/-- The place in the permutation that device `c` reads: its own column. -/
def column (c : Dev nD) : S2.Idx := fun a => ⟨c.val % 2, by fin_cases a; exact Nat.mod_lt _ (by decide)⟩

/-- What the run asks of the memory at launch: on every device the word at its column is the target of the
    permutation that the run is about. -/
def TableOK : Prop := ∀ c : Dev nD, (m ((c : Thread nD τ).loc main_arg1) : IVec S2 32) (column c) = target sw c

/-- The rectangle of that one word. -/
abbrev wordRect (c : Dev nD) : Rect S2 := Rect.unit (s := S2) (k0_off1 c) S1.size (k0_off1_inb c)
/-- The word, as the body reads it off the staged permutation. -/
abbrev wordAt (c : Dev nD) (ts : (cc0_stg1_0 : Ref sig .tc).ty.Contents (Elt F)) : BitVec 32 :=
  ((Memref.whole cc0_stg1_0).access (wordRect c) : View sig .tc _ _ _).read (Elt F) ts (Shape.Idx.first (s := S1) (numel1_S1.symm ▸ Nat.one_pos))

variable {m sw} in
omit [FloatOps F] in
/-- It is the target. -/
theorem TableOK.word (h : TableOK m sw) (c : Dev nD) : wordAt c (tAt m ρ c) = target sw c := by
  refine Eq.trans ?_ (h c)
  show m ((c : Thread nD τ).loc main_arg1) _ = _
  refine congrArg _ (funext fun a => Fin.ext ?_)
  fin_cases a; fin_cases c <;> rfl

/-! ## What the body starts from and ends with -/

/-- The launch has no grid: it has one point. -/
theorem cfg0_N : cfg0.N = 1 := by decide
/-- The one point of the pipeline. -/
def t₀ : Fin cfg0.N := ⟨0, by rw [cfg0_N]; decide⟩
/-- Every point is that one. -/
theorem fin_N (t : Fin cfg0.N) : t = t₀ := by
  obtain ⟨t, ht⟩ := t; have := cfg0_N; exact Fin.ext (by simp only [t₀]; omega)

/-- The invariants that device `c` opens: those of its own four cells and of its partner's barrier and receive cell. -/
def invs (K : Dev nD × Fin 4 → ℕ) (c : Dev nD) : sProp 𝕄 :=
  iprop((cellInv EX (plan m ρ sw) (K (c, 0)) (cell c 0) ∗ cellInv EX (plan m ρ sw) (K (c, 1)) (cell c 1)
      ∗ cellInv EX (plan m ρ sw) (K (c, 2)) (cell c 2) ∗ cellInv EX (plan m ρ sw) (K (c, 3)) (cell c 3))
    ∗ cellInv EX (plan m ρ sw) (K (partner c, 0)) (cell (partner c) 0) ∗ cellInv EX (plan m ρ sw) (K (partner c, 2)) (cell (partner c) 2))

instance invs_persistent (K : Dev nD × Fin 4 → ℕ) (c : Dev nD) : BI.Persistent (invs m ρ sw K c) := by unfold invs; infer_instance

/-- Its position on its own four cells. -/
def positions (c : Dev nD) : sProp 𝕄 :=
  iprop(atPos EX (cell c 0) 0 ∅ 0 ∗ atPos EX (cell c 1) 0 ∅ 0 ∗ atPos EX (cell c 2) 0 ∅ 0 ∗ atPos EX (cell c 3) 0 ∅ 0)

/-- The tokens of the four payments that it makes: to its partner's barrier and receive cell, to its own send and local cell. -/
def payments (c : Dev nD) : sProp 𝕄 :=
  iprop(dutyTok EX (cell (partner c) 0) 0 () ∗ dutyTok EX (cell (partner c) 2) 0 () ∗ dutyTok EX (cell c 1) 0 () ∗ dutyTok EX (cell c 3) 0 ())

/-- That the cells which it pays, and its own receive cell, are in round 0. -/
def marks (c : Dev nD) : sProp 𝕄 :=
  iprop(reached EX (cell (partner c) 0) 0 ∗ reached EX (cell c 1) 0 ∗ reached EX (cell c 2) 0 ∗ reached EX (cell c 3) 0)

instance marks_persistent (c : Dev nD) : BI.Persistent (marks (F := F) c) := by unfold marks; infer_instance

/-- The ghost state of device `c`. -/
def ghost (K : Dev nD × Fin 4 → ℕ) (c : Dev nD) : sProp 𝕄 :=
  iprop(invs m ρ sw K c ∗ marks c ∗ positions c ∗ payments c)

/-- What it starts from: that at some names, the credits of its barrier and receive cells, the levels, and its result
    buffer at any contents. -/
def start (c : Dev nD) : sProp 𝕄 :=
  iprop((∃ K, ghost m ρ sw K c) ∗ (cred (tallyAt (cell c 0) () 1) ∗ cred (tallyAt (cell c 2) () (owedN sw))) ∗ levAts L lv ∗ ∃ f, outPts c f)

def Φ₀ (c : Dev nD) : sProp 𝕄 := iprop(start m ρ sw c ∗ ∃ f, bufPts c f)
/-- What it ends with: the result and the sent block in their buffers, the four counters at zero. -/
def Φ₁ (c : Dev nD) : sProp 𝕄 :=
  iprop((outPts c (result m ρ sw c) ∗ bufPts c (sent m ρ c))
    ∗ semVal (cell c 0) 0 ∗ semVal (cell c 1) 0 ∗ semVal (cell c 2) 0 ∗ semVal (cell c 3) 0)

/-- The pipeline's proof data. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m ρ c
    | ⟨1, _⟩ => tAt m ρ c
  Φ t := match t with
    | ⟨0, _⟩ => Φ₀ m ρ sw c
    | ⟨_ + 1, _⟩ => Φ₁ m ρ sw c
  q _ := fullShare
  owed t := match t with
    | ⟨0, _⟩ => O₀ sw c
    | ⟨_ + 1, _⟩ => 0

omit [FloatOps F] in
/-- A staged block owned whole is the buffer owned with that block in it. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The steps -/

section Steps

variable (K : Dev nD × Fin 4 → ℕ) (c : Dev nD)

/-- The rectangle of a whole block. -/
abbrev blockRect : Rect S1x256x256 := Rect.unit (s := S1x256x256) ![0, 0, 0] S1x256x256.size inb_S1x256x256_S1x256x256_0_0_0

omit [FloatOps F] in
/-- The offsets of the whole block, as the body spells them, are zero. -/
theorem zeros : (![0, 0, 0] : Fin 3 → Nat) = fun _ => 0 := funext fun a => by fin_cases a <;> rfl
omit [FloatOps F] in
/-- Loading the whole block reads the staged contents, -/
theorem read_x (f : (cc0_stg0_0 : Ref sig .tc).ty.Contents (Elt F)) : (xM : Memref sig .tc .vmem S1x256x256 .bf16).view.readAt (Elt F) blockRect.toLoadRect f = f :=
  Memref.readAt_unit_zero (Elt F) cc0_stg0_0 zeros _ f
omit [FloatOps F] in
/-- and storing the whole block leaves what is stored. -/
theorem write_buf (f w : (cc0_scratch0 : Ref sig .tc).ty.Contents (Elt F)) :
    ((bM : Memref sig .tc .vmem S1x256x256 .bf16).access blockRect : View sig .tc _ _ _).write (Elt F) f w Finset.univ = w :=
  Memref.write_access_unit_zero_univ (Elt F) cc0_scratch0 zeros _ f w

/-- What a device keeps of its result buffer once it has signalled: nothing in a swap, the buffer in a stay. -/
def kept : sProp 𝕄 := if sw then iprop(emp) else iprop(∃ f, outPts c f)

/-- The result buffer splits into what the signal hands over and what is kept. -/
theorem split_out : iprop((∃ f, outPts c f) ∗ reached EX (cell c 2) 0) ⊢ iprop(delivery m ρ sw (partner c) 0 ∗ kept (F := F) sw c) := by
  cases sw
  · show _ ⊢ iprop(emp ∗ ∃ f, outPts c f)
    iintro ⟨H, -⟩
    isplitr; · iempintro
    iexact H
  · show _ ⊢ iprop(((∃ f, outPts (partner (partner c)) f) ∗ reached EX (cell (partner (partner c)) 2) 0) ∗ emp)
    rw [partner_partner]
    iintro H
    isplitl; · iexact H
    iempintro

/-- The signal to the partner, which hands over the result buffer in a swap. -/
theorem wp_signal_partner {α : Type} {Q : α → sProp 𝕄} {k : PUnit → Prog (TpuEff nD τ sig (Elt F) Λ₀ .tc) α}
    (W : Waits sig Unit) (n : Dev nD) (hn : n = partner c) :
    iprop(cellInv EX (plan m ρ sw) (K (partner c, 0)) (cell (partner c) 0) ∗ owes (c : Thread nD τ) (O₀ sw c) W
        ∗ dutyTok EX (cell (partner c) 0) 0 () ∗ reached EX (cell (partner c) 0) 0 ∗ reached EX (cell c 2) 0 ∗ ∃ f, outPts c f)
      ⊢ iprop(((owes (c : Thread nD τ) (O₁ sw c) W ∗ kept (F := F) sw c) -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (Dev.tc n) (SemArray.scalar (sig.barrier 0 rfl) : Sems sig S_).sem (1#32 : BitVec 32).toInt) k) Q) := by
  subst hn
  rw [show (1#32 : BitVec 32).toInt = ((1#32 : BitVec 32).toNat : Int) from rfl]
  iintro ⟨HI, HO, Ht, Hr, Hv, Hout⟩ Hk
  ihave Hs := (split_out m ρ sw c) $$ [Hv Hout]
  · isplitl [Hout] <;> iassumption
  icases Hs with ⟨Hd, Hkept⟩
  iapply (Rounds.wp_signal 𝒱₀ EX (plan m ρ sw) (c : Thread nD τ) none (dst := (partner c : Thread nD τ)) (κ := K (partner c, 0))
      (d := ()) (by rw [duties_paid m ρ sw (partner c) 0 (Or.inl rfl)]; exact Finset.mem_singleton_self _)
      ((amount_bar m ρ sw (partner c)).trans (by decide)) () (O₁ sw c) rfl) $$ [HI HO Ht Hr Hd]
  · isplitl [HI]; · iexact HI
    isplitl [HO]; · iexact HO
    isplitl [Ht]; · iexact Ht
    isplitl [Hd]; · rw [payload_eq m ρ sw (partner c) 0]; iexact Hd
    iexact Hr
  iintro HO
  iapply Hk
  isplitl [HO] <;> iassumption

/-- The wait on the own barrier: the partner's delivery comes with it. -/
theorem wp_wait_barrier {α : Type} {Q : α → sProp 𝕄} {k : PUnit → Prog (TpuEff nD τ sig (Elt F) Λ₀ .tc) α}
    (W : Waits sig Unit) :
    iprop(cellInv EX (plan m ρ sw) (K (c, 0)) (cell c 0) ∗ cred (tallyAt (cell c 0) () 1) ∗ owes (c : Thread nD τ) (O₁ sw c) W
        ∗ levAts L lv ∗ atPos EX (cell c 0) 0 ∅ 0)
      ⊢ iprop(((owes (c : Thread nD τ) (O₁ sw c) (insert (barS, ()) W) ∗ atPos EX (cell c 0) (0 + 1) ∅ 0 ∗ delivery m ρ sw c 0)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semWait (SemArray.scalar (sig.barrier 0 rfl) : Sems sig S_).sem (1#32 : BitVec 32).toInt) k) Q) := by
  rw [show (1#32 : BitVec 32).toInt = ((1#32 : BitVec 32).toNat : Int) from rfl]
  iintro ⟨HI, Hc, HO, Hlev, Hat⟩ Hk
  iapply (Rounds.wp_wait_rest_token 𝒱₀ EX (plan m ρ sw) (c : Thread nD τ) none (κ := K (c, 0))
      (wpE_semWait_eq 𝒱₀ (c : Thread nD τ) none Set.univ) (Set.mem_univ _) () (O := O₁ sw c) (W := W) (R := 0) (m := 0) (T := ∅)
      (by rw [expect_bar]; decide)) $$ [HI Hc HO Hlev Hat]
  · isplitl [HI]; · iexact HI
    isplitl [Hc]; · iexact Hc
    isplitl [HO]; · iexact HO
    isplitl [Hlev]; · iapply (mayWait_bar sw c); iexact Hlev
    iexact Hat
  iintro ⟨HO, Hat, -, Hpay⟩
  ihave Hd := (Entails.of_eq (handed m ρ sw c 0 (Or.inl rfl))) $$ Hpay
  iapply Hk
  isplitl [HO]; · iexact HO
  isplitl [Hat] <;> iassumption

/-- A wait, owing nothing, for the block's credit on a DMA semaphore of the device that is paid: its delivery comes with it. -/
theorem wp_wait_block {α : Type} {Q : α → sProp 𝕄} {k : PUnit → Prog (TpuEff nD τ sig (Elt F) Λ₀ .tc) α}
    {sp sp' : Space} {s s' : Shape} {e e' : EltTy} (W : Waits sig Unit) (j : Fin 4) (hj : j ≠ 0) (hp : Paid sw j) (q : DmaSem sig) (hq : semOf j = .dma q)
    {src : Memref sig .tc sp s e} {dst : Memref sig .tc sp' s' e'} {hsrc : src.view.WordExact} {hdst : dst.view.WordExact}
    (hN : dst.view.dmaCredit = N) :
    iprop(cellInv EX (plan m ρ sw) (K (c, j)) (cell c j) ∗ cred (tallyAt (cell c j) () N) ∗ owes (c : Thread nD τ) 0 W ∗ atPos EX (cell c j) 0 ∅ 0)
      ⊢ iprop(((owes (c : Thread nD τ) 0 (insert (semOf j, ()) W) ∗ atPos EX (cell c j) (0 + 1) ∅ 0 ∗ delivery m ρ sw c j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  iintro ⟨HI, Hc, HO, Hat⟩ Hk
  have hcell : cell c j = ((c : Thread nD τ), .dma q) := congrArg (Prod.mk (c : Thread nD τ)) hq
  have he := expect_dma m ρ sw c j hj hp
  have hh := handed m ρ sw c j hp
  rw [hcell] at he hh
  rw [hcell, hq]
  iapply (Rounds.wp_wait_rest_token 𝒱₀ EX (plan m ρ sw) (c : Thread nD τ) none (κ := K (c, j))
      (wpE_waitDma2_eq 𝒱₀ (c : Thread nD τ) none Set.univ) (Set.mem_univ _) () (O := 0) (W := W) (R := 0) (m := 0) (T := ∅)
      (by rw [Nat.zero_add, he, hN])) $$ [HI Hc HO Hat]
  · isplitl [HI]; · iexact HI
    isplitl [Hc]; · rw [hN]; iexact Hc
    isplitl [HO]; · iexact HO
    isplitr; · rw [MayWait_zero]; iempintro
    iexact Hat
  iintro ⟨HO, Hat, -, Hpay⟩
  ihave Hd := (Entails.of_eq hh) $$ Hpay
  iapply Hk
  isplitl [HO]; · iexact HO
  isplitl [Hat] <;> iassumption

/-- The copy within the device, in a stay. -/
theorem wp_copy_self {α : Type} {Q : α → sProp 𝕄} {k : PUnit → Prog (TpuEff nD τ sig (Elt F) Λ₀ .tc) α}
    (fd : Buf (Elt F) ((oM : Memref sig .tc .hbm S1x256x256 .bf16).view.loc (c : Thread nD τ)))
    {hsrc : (bM : Memref sig .tc .vmem S1x256x256 .bf16).view.WordExact} {hdst : (oM : Memref sig .tc .hbm S1x256x256 .bf16).view.WordExact}
    {hsem : DmaTarget.Typed (nD := nD) (τ := τ) (sig := sig) (p := .tc) .vmem selfS (.here (oM : Memref sig .tc .hbm S1x256x256 .bf16))} :
    iprop(cellInv EX (plan m ρ false) (K (c, 3)) (cell c 3) ∗ bufPts c (sent m ρ c) ∗ outPts c fd ∗ dutyTok EX (cell c 3) 0 () ∗ reached EX (cell c 3) 0)
      ⊢ iprop((cred (tallyAt (cell c 3) () N) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma bM (.here oM) selfS hsrc hdst hsem) k) Q) := by
  unfold bufPts outPts
  exact Rounds.wp_copy_pointsTo 𝒱₀ EX (plan m ρ false) (c : Thread nD τ) none (κ := K (c, 3)) (r := 0) (d := ()) (fd := fd)
    (by rw [duties_paid m ρ false c 3 (Or.inr rfl)]; exact Finset.mem_singleton_self _) () N rfl (amount_dma m ρ false c 3 (by decide))
    (by rw [payload_eq m ρ false c 3]; unfold delivery outPts bufPts; rw [written_eq]; exact BI.Entails.refl _)

/-- The transfer to the partner, in a swap. -/
theorem wp_send_partner {α : Type} {Q : α → sProp 𝕄} {k : PUnit → Prog (TpuEff nD τ sig (Elt F) Λ₀ .tc) α}
    (n : Dev nD) (hn : n = partner c) (W : Waits sig Unit)
    (fd : Buf (Elt F) ((oM : Memref sig .tc .hbm S1x256x256 .bf16).view.loc (partner c : Thread nD τ)))
    {hsc : (oM : Memref sig (Dev.tc n : Thread nD τ).2.kind .hbm S1x256x256 .bf16).view.ref.isScScratch = false}
    {hsrc : (bM : Memref sig .tc .vmem S1x256x256 .bf16).view.WordExact} {hdst : (oM : Memref sig .tc .hbm S1x256x256 .bf16).view.WordExact}
    {hsem : DmaTarget.Typed .vmem recvS (.remote (Dev.tc n : Thread nD τ) (oM : Memref sig .tc .hbm S1x256x256 .bf16) sendS hsc)} :
    iprop(cellInv EX (plan m ρ true) (K (c, 1)) (cell c 1) ∗ cellInv EX (plan m ρ true) (K (partner c, 2)) (cell (partner c) 2)
        ∗ bufPts c (sent m ρ c) ∗ outPts (partner c) fd ∗ owes (c : Thread nD τ) (O₁ true c) W
        ∗ dutyTok EX (cell c 1) 0 () ∗ reached EX (cell c 1) 0 ∗ dutyTok EX (cell (partner c) 2) 0 () ∗ reached EX (cell (partner c) 2) 0)
      ⊢ iprop(((cred (tallyAt (cell c 1) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma bM (.remote (Dev.tc n : Thread nD τ) oM sendS hsc) recvS hsrc hdst hsem) k) Q) := by
  subst hn
  unfold bufPts outPts
  exact Rounds.wp_send_pointsTo 𝒱₀ EX (plan m ρ true) (c : Thread nD τ) none (κ₁ := K (c, 1)) (κ₂ := K (partner c, 2))
    (r₁ := 0) (r₂ := 0) (d₁ := ()) (d₂ := ()) (fd := fd)
    (by rw [duties_paid m ρ true c 1 (Or.inr (Or.inl rfl))]; exact Finset.mem_singleton_self _)
    (by rw [duties_paid m ρ true (partner c) 2 (Or.inr (Or.inr rfl))]; exact Finset.mem_singleton_self _)
    () () N rfl (amount_dma m ρ true c 1 (by decide)) (amount_dma m ρ true (partner c) 2 (by decide)) 0
    (by rw [zero_add]; rfl) (W := W)
    (by rw [payload_eq m ρ true c 1]; exact BI.Entails.refl _)
    (by rw [payload_eq m ρ true (partner c) 2]; unfold delivery outPts result origin; rw [written_eq, if_pos rfl, partner_partner]; exact BI.Entails.refl _)

/-- A cell whose rounds are over gives its counter back, at zero. -/
theorem close_cell (j : Fin 4) (R : ℕ) (hR : ∀ r, R ≤ r → (plan (F := F) m ρ sw).duties (cell c j) r = ∅) :
    iprop(cellInv EX (plan m ρ sw) (K (c, j)) (cell c j) ∗ atPos EX (cell c j) R ∅ 0) ⊢ (|={Set.univ}=> semVal (cell c j) 0 : sProp 𝕄) :=
  Rounds.cell_close EX (plan m ρ sw) (Set.mem_univ (K (c, j))) (fun h => h) (R := R) hR

end Steps

end Cert.Exchange

end
-- ==== Proof.Execute.lean ====
/-
The body of one device from its start to its end, the two cases in turn, and the obligation that the pipeline asks of it.
-/
module

public import proofs.«01_k».proof.Proof.Body

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (sw : Bool)

/-- A staging buffer holding `X`. -/
abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The waits that a device has made, any number of them, while it owes `O`. -/
def owesSome (c : Dev nD) (O : CellTallies nD τ sig Unit) : sProp 𝕄 := iprop(∃ W : Waits sig Unit, owes (c : Thread nD τ) O W)

/-! ## What is held between the signal and the end -/

/-- What device `c` holds after the sent block is stored: everything of its start but what the signal took. -/
def midway (K : Dev nD × Fin 4 → ℕ) (c : Dev nD) : sProp 𝕄 :=
  iprop((invs m ρ sw K c ∗ marks c ∗ levAts L lv)
    ∗ positions c
    ∗ (dutyTok EX (cell (partner c) 2) 0 () ∗ dutyTok EX (cell c 1) 0 () ∗ dutyTok EX (cell c 3) 0 ())
    ∗ (cred (tallyAt (cell c 0) () 1) ∗ cred (tallyAt (cell c 2) () (owedN sw)))
    ∗ owesSome c (O₁ sw c) ∗ kept sw c ∗ bufPts c (sent m ρ c))

omit [FloatOps F] in
/-- In a stay the result buffer is kept. -/
theorem kept_stay (c : Dev nD) : kept (F := F) false c = iprop(∃ f, outPts c f) := rfl

/-- What it holds at the end, all debts paid. -/
def ended (c : Dev nD) : sProp 𝕄 := iprop(Φ₁ m ρ sw c ∗ owesSome c 0)

section Close
variable (K : Dev nD × Fin 4 → ℕ) (c : Dev nD)

/-- At the end all four cells close, and what is held is the end's. -/
theorem close_all (R : Fin 4 → ℕ) (hR : ∀ j r, R j ≤ r → (plan (F := F) m ρ sw).duties (cell c j) r = ∅) :
    iprop(invs m ρ sw K c ∗ (atPos EX (cell c 0) (R 0) ∅ 0 ∗ atPos EX (cell c 1) (R 1) ∅ 0 ∗ atPos EX (cell c 2) (R 2) ∅ 0 ∗ atPos EX (cell c 3) (R 3) ∅ 0)
        ∗ outPts c (result m ρ sw c) ∗ bufPts c (sent m ρ c) ∗ owesSome c 0)
      ⊢ (|={Set.univ}=> ended m ρ sw c : sProp 𝕄) := by
  unfold invs
  iintro ⟨⟨⟨#I0, #I1, #I2, #I3⟩, -⟩, ⟨H0, H1, H2, H3⟩, Ho, Hb, HO⟩
  imod (close_cell m ρ sw K c 0 (R 0) (hR 0)) $$ [H0] with Z0
  · isplitr; · iexact I0
    iexact H0
  imod (close_cell m ρ sw K c 1 (R 1) (hR 1)) $$ [H1] with Z1
  · isplitr; · iexact I1
    iexact H1
  imod (close_cell m ρ sw K c 2 (R 2) (hR 2)) $$ [H2] with Z2
  · isplitr; · iexact I2
    iexact H2
  imod (close_cell m ρ sw K c 3 (R 3) (hR 3)) $$ [H3] with Z3
  · isplitr; · iexact I3
    iexact H3
  imodintro
  unfold ended Φ₁
  isplitr [HO]
  · isplitl [Ho Hb]
    · isplitl [Ho] <;> iassumption
    isplitl [Z0]; · iexact Z0
    isplitl [Z1]; · iexact Z1
    isplitl [Z2] <;> iassumption
  iexact HO

/-- In a stay the barrier's and the local cell are past their round, the other two never had one; -/
theorem over_stay (j : Fin 4) (r : ℕ) (h : (![1, 0, 0, 1] : Fin 4 → ℕ) j ≤ r) : (plan (F := F) m ρ false).duties (cell c j) r = ∅ := by
  by_cases hp : Paid false j
  · refine duties_later m ρ false _ r ?_
    have : (![1, 0, 0, 1] : Fin 4 → ℕ) j = 1 := by clear h; revert j; decide
    omega
  · exact duties_unpaid m ρ false c j hp r (Nat.zero_le r)
/-- in a swap all but the local one are. -/
theorem over_swap (j : Fin 4) (r : ℕ) (h : (![1, 1, 1, 0] : Fin 4 → ℕ) j ≤ r) : (plan (F := F) m ρ true).duties (cell c j) r = ∅ := by
  by_cases hp : Paid true j
  · refine duties_later m ρ true _ r ?_
    have : (![1, 1, 1, 0] : Fin 4 → ℕ) j = 1 := by clear h; revert j; decide
    omega
  · exact duties_unpaid m ρ true c j hp r (Nat.zero_le r)

end Close

/-! ## The body's second half -/

section Rest
variable (K : Dev nD × Fin 4 → ℕ) (c : Dev nD)

/-- The body after the store, over the word it has read. -/
abbrev rest (w : BitVec 32) (hw : k0_chk1 c w) : Prog (TpuEff nD τ sig (Elt F) Λ₀ .tc) PUnit := do
  if stayTest c w = 1#1 then do
    Prog.lift (.enqueueDma bM (.here oM) (.dma cc0_scratch3.sem) (Memref.isWhole_whole _).wordExact (Memref.isWhole_whole _).wordExact ⟨Or.inl rfl, trivial⟩)
    Prog.lift (.waitDma2 cc0_scratch3.sem bM oM (Memref.isWhole_whole _).wordExact (Memref.isWhole_whole _).wordExact)
    pure ⟨⟩
  else do
    pure ⟨⟩
  semWaitWord (SemArray.scalar (sig.barrier 0 rfl) : Sems sig S_).sem 1#32
  if h : k0_cond2 c w = 1#1 then do
    Prog.lift (.enqueueDma bM (.remote (Dev.tc (⟨k0_dev2 c w, k0_dev2_lt c w hw h⟩ : Dev nD)) oM (.dma cc0_scratch1.sem)) (.dma cc0_scratch2.sem)
      (Memref.isWhole_whole _).wordExact (Memref.isWhole_whole _).wordExact ⟨⟨rfl, Or.inl rfl⟩, trivial⟩)
    Prog.lift (.waitDma2 cc0_scratch1.sem oM bM (Memref.isWhole_whole _).wordExact (Memref.isWhole_whole _).wordExact)
    Prog.lift (.waitDma2 cc0_scratch2.sem bM oM (Memref.isWhole_whole _).wordExact (Memref.isWhole_whole _).wordExact)
    pure ⟨⟩
  else do
    pure ⟨⟩
  pure ⟨⟩

set_option maxHeartbeats 1600000 in
/-- A stay: the copy within the device and its wait, then the barrier. -/
theorem rest_stay (Kt : PUnit → sProp 𝕄) (hw : k0_chk1 c (target false c)) :
    iprop(midway m ρ false K c ∗ (ended m ρ false c -∗ Kt ⟨⟩))
      ⊢ wp frame (wpE (defs₀ (F := F)) 𝒱₀ c none) Set.univ (rest (F := F) c (target false c) hw) Kt := by
  unfold rest
  rw [if_pos (stayTest_stay c), dif_neg (moveTest_stay c)]
  simp only [semWaitWord, Prog.lift, Prog.bind_op, Prog.bind_ret, Prog.pure_eq_ret, Prog.bind_assoc]
  unfold midway invs marks positions owesSome
  rw [O₁_stay, kept_stay]
  iintro ⟨⟨⟨⟨⟨#I0, #I1, #I2, #I3⟩, #J0, #J2⟩, ⟨#R0, #R1, #R2, #R3⟩, #Hlev⟩, ⟨H0, H1, H2, H3⟩, ⟨-, -, T3⟩, ⟨C0, -⟩, ⟨%W, HO⟩, ⟨%f, Hout⟩, Hbuf⟩, Hk⟩
  iapply (wp_copy_self m ρ K c f) $$ [Hbuf Hout T3]
  · isplitr; · iexact I3
    isplitl [Hbuf]; · iexact Hbuf
    isplitl [Hout]; · iexact Hout
    isplitl [T3]; · iexact T3
    iexact R3
  iintro C3
  iapply (wp_wait_block m ρ false K c W 3 (by decide) (Or.inr rfl) cc0_scratch3.sem rfl (src := bM) (dst := oM) rfl) $$ [C3 HO H3]
  · isplitr; · iexact I3
    isplitl [C3]; · iexact C3
    isplitl [HO] <;> iassumption
  iintro ⟨HO, H3, Hd⟩
  unfold delivery
  icases Hd with ⟨Hout, Hbuf⟩
  ihave HO' := (Entails.of_eq (congrArg (fun O => owes (c : Thread nD τ) O (insert (semOf 3, ()) W)) (O₁_stay c).symm)) $$ HO
  iapply (wp_wait_barrier m ρ false K c (insert (semOf 3, ()) W)) $$ [C0 HO' H0]
  · isplitr; · iexact I0
    isplitl [C0]; · iexact C0
    isplitl [HO']; · iexact HO'
    isplitr; · iexact Hlev
    iexact H0
  rw [O₁_stay]
  iintro ⟨HO, H0, -⟩
  imod (close_all m ρ false K c ![1, 0, 0, 1] (over_stay m ρ c)) $$ [HO H0 H1 H2 H3 Hout Hbuf] with He
  · unfold invs owesSome
    isplitr
    · isplitr
      · isplitr; · iexact I0
        isplitr; · iexact I1
        isplitr; · iexact I2
        iexact I3
      isplitr; · iexact J0
      iexact J2
    isplitl [H0 H1 H2 H3]
    · isplitl [H0]; · iexact H0
      isplitl [H1]; · iexact H1
      isplitl [H2]; · iexact H2
      iexact H3
    isplitl [Hout]; · iexact Hout
    isplitl [Hbuf]; · iexact Hbuf
    iexists _; iexact HO
  rw [wp_ret]; imodintro
  iapply Hk; iexact He

set_option maxHeartbeats 1600000 in
/-- A swap: the barrier, with the partner's result buffer, then the transfer and the waits for both its ends. -/
theorem rest_swap (Kt : PUnit → sProp 𝕄) (hw : k0_chk1 c (target true c)) :
    iprop(midway m ρ true K c ∗ (ended m ρ true c -∗ Kt ⟨⟩))
      ⊢ wp frame (wpE (defs₀ (F := F)) 𝒱₀ c none) Set.univ (rest (F := F) c (target true c) hw) Kt := by
  unfold rest
  rw [if_neg (stayTest_swap c), dif_pos (moveTest_swap c)]
  simp only [semWaitWord, Prog.lift, Prog.bind_op, Prog.bind_ret, Prog.pure_eq_ret, Prog.bind_assoc]
  unfold midway invs marks positions owesSome
  iintro ⟨⟨⟨⟨⟨#I0, #I1, #I2, #I3⟩, #J0, #J2⟩, ⟨#R0, #R1, #R2, #R3⟩, #Hlev⟩, ⟨H0, H1, H2, H3⟩, ⟨T2, T1, -⟩, ⟨C0, C2⟩, ⟨%W, HO⟩, -, Hbuf⟩, Hk⟩
  iapply (wp_wait_barrier m ρ true K c W) $$ [C0 HO H0]
  · isplitr; · iexact I0
    isplitl [C0]; · iexact C0
    isplitl [HO]; · iexact HO
    isplitr; · iexact Hlev
    iexact H0
  rw [show delivery (F := F) m ρ true c 0 = iprop((∃ f, outPts (partner c) f) ∗ reached EX (cell (partner c) 2) 0) from rfl]
  iintro ⟨HO, H0, Hd⟩
  icases Hd with ⟨⟨%f, Hout⟩, #R2'⟩
  iapply (wp_send_partner m ρ K c _ (Fin.ext (addressed_swap c)) (insert (barS, ()) W) f) $$ [Hbuf Hout HO T1 T2]
  · isplitr; · iexact I1
    isplitr; · iexact J2
    isplitl [Hbuf]; · iexact Hbuf
    isplitl [Hout]; · iexact Hout
    isplitl [HO]; · iexact HO
    isplitl [T1]; · iexact T1
    isplitr; · iexact R1
    isplitl [T2]; · iexact T2
    iexact R2'
  iintro ⟨C1, HO⟩
  iapply (wp_wait_block m ρ true K c _ 1 (by decide) (Or.inr (Or.inl rfl)) cc0_scratch1.sem rfl (src := oM) (dst := bM) rfl) $$ [C1 HO H1]
  · isplitr; · iexact I1
    isplitl [C1]; · iexact C1
    isplitl [HO] <;> iassumption
  rw [show delivery (F := F) m ρ true c 1 = bufPts c (sent m ρ c) from rfl]
  iintro ⟨HO, H1, Hbuf⟩
  iapply (wp_wait_block m ρ true K c _ 2 (by decide) (Or.inr (Or.inr rfl)) cc0_scratch2.sem rfl (src := bM) (dst := oM) rfl) $$ [C2 HO H2]
  · isplitr; · iexact I2
    isplitl [C2]; · iexact C2
    isplitl [HO] <;> iassumption
  rw [show delivery (F := F) m ρ true c 2 = outPts c (result m ρ true c) from rfl]
  iintro ⟨HO, H2, Hout⟩
  imod (close_all m ρ true K c ![1, 1, 1, 0] (over_swap m ρ c)) $$ [HO H0 H1 H2 H3 Hout Hbuf] with He
  · unfold invs owesSome
    isplitr
    · isplitr
      · isplitr; · iexact I0
        isplitr; · iexact I1
        isplitr; · iexact I2
        iexact I3
      isplitr; · iexact J0
      iexact J2
    isplitl [H0 H1 H2 H3]
    · isplitl [H0]; · iexact H0
      isplitl [H1]; · iexact H1
      isplitl [H2]; · iexact H2
      iexact H3
    isplitl [Hout]; · iexact Hout
    isplitl [Hbuf]; · iexact Hbuf
    iexists _; iexact HO
  rw [wp_ret]; imodintro
  iapply Hk; iexact He

/-- Both cases in one. -/
theorem rest_ok (Kt : PUnit → sProp 𝕄) (w : BitVec 32) (e : w = target sw c) (hw : k0_chk1 c w) :
    iprop(midway m ρ sw K c ∗ (ended m ρ sw c -∗ Kt ⟨⟩))
      ⊢ wp frame (wpE (defs₀ (F := F)) 𝒱₀ c none) Set.univ (rest (F := F) c w hw) Kt := by
  subst e
  cases sw
  · exact rest_stay m ρ K c Kt hw
  · exact rest_swap m ρ K c Kt hw

end Rest

/-! ## The whole body -/

def bodyPre (c : Dev nD) : sProp 𝕄 :=
  iprop(Φ₀ m ρ sw c ∗ (dats m ρ sw 0 c).owesAt () t₀.castSucc
    ∗ (∃ d, staged c cc0_stg0_0 ((dats m ρ sw 0 c).before (0 : Fin 2) t₀ d))
    ∗ (∃ d, staged c cc0_stg1_0 ((dats m ρ sw 0 c).before (1 : Fin 2) t₀ d)))

def bodyPost (c : Dev nD) : sProp 𝕄 :=
  iprop(Φ₁ m ρ sw c ∗ (dats m ρ sw 0 c).owesAt () t₀.succ ∗ staged c cc0_stg0_0 (xAt m ρ c) ∗ staged c cc0_stg1_0 (tAt m ρ c))

set_option maxHeartbeats 4000000 in
/-- The body, executed from its start: the word, the signal, the block into the buffer that transfers read, then the
    second half. -/
theorem body_ok (h : TableOK m sw) (c : Dev nD) :
    bodyPre m ρ sw c
      ⊢ wp frame (wpE (defs₀ (F := F)) 𝒱₀ c none) Set.univ
          (cc0_body (Memref.whole cc0_stg0_0) (Memref.isWhole_whole _) (Memref.whole cc0_stg1_0) (Memref.isWhole_whole _)
            (Memref.whole main_v1) (Memref.isWhole_whole _) (Memref.whole cc0_scratch0) (Memref.isWhole_whole _) cc0_scratch1 cc0_scratch2 cc0_scratch3)
          (fun _ => bodyPost m ρ sw c) := by
  simp only [cc0_body_eq_skeleton]; unfold cc0_body_skel
  simp only [semSignalWord, smemLoad, smemLoadElt, Prog.lift, Prog.bind_op, Prog.bind_ret, Prog.pure_eq_ret, Prog.bind_assoc, wp_deviceId]
  unfold bodyPre Φ₀ start ghost payments
  iintro ⟨⟨⟨⟨%K, #HI, #HR, Hpos, T0, T2, T1, T3⟩, HC, #Hlev, Hout⟩, ⟨%f, Hbuf⟩⟩, Ho, ⟨%d0, %g0, %hg0, Hx⟩, ⟨%d1, %g1, %hg1, Ht⟩⟩
  have hx : g0 = xAt m ρ c := by rw [hg0]; unfold Dat.before; rw [if_pos (fetch0_0 t₀)]; rfl
  subst hx
  have ht : g1 = tAt m ρ c := by rw [hg1]; unfold Dat.before; rw [if_pos (fetch0_1 t₀)]; rfl
  subst ht
  unfold Dat.owesAt Pipeline.owesWithin
  icases Ho with ⟨%W, %hW, HO⟩
  rw [show (dats m ρ sw 0 c).owed t₀.castSucc = O₀ sw c from rfl]
  -- the word at the device's column of the permutation
  iapply (wp_load_rect 𝒱₀ (c : Thread nD τ) none Set.univ (m := tM) (r := wordRect c) (Finset.subset_univ _)) $$ Ht; iintro Ht
  have hword : wordAt c (tAt m ρ c) = target sw c := h.word ρ c
  have hchk : k0_chk1 c (wordAt c (tAt m ρ c)) := by rw [hword]; exact target_ok sw c
  simp only [wp_assume_of _ _ _ _ (d := k0_chk1.dec _ _) hchk]
  -- the signal to the partner
  iapply (wp_signal_partner m ρ sw K c W _ (signalled_eq c)) $$ [HO T0 Hout]
  · unfold invs marks
    icases HI with ⟨-, J0, -⟩
    icases HR with ⟨R0, -, R2, -⟩
    isplitr; · iexact J0
    isplitl [HO]; · iexact HO
    isplitl [T0]; · iexact T0
    isplitr; · iexact R0
    isplitr; · iexact R2
    iexact Hout
  iintro ⟨HO, Hkept⟩
  -- the block, into the buffer that transfers read
  iapply (wp_load 𝒱₀ (c : Thread nD τ) none Set.univ (m := xM) (Finset.subset_univ _)) $$ Hx; iintro Hx
  rw [read_x]
  ihave Hbuf' := (Entails.of_eq (bufPts_eq c f)) $$ Hbuf
  iapply (wp_load 𝒱₀ (c : Thread nD τ) none Set.univ (m := bM) (Finset.subset_univ _)) $$ Hbuf'; iintro Hbuf
  iapply (wp_store 𝒱₀ (c : Thread nD τ) none Set.univ (m := bM) (r := blockRect) (Mk := Finset.univ) (Finset.subset_univ _)) $$ Hbuf; iintro Hbuf
  rw [write_buf]
  ihave Hbuf' := (Entails.of_eq (show (((bM : Memref sig .tc .vmem S1x256x256 .bf16).access blockRect : View sig .tc _ _ _).loc (c : Thread nD τ)
      ↦{fullShare} k0_pay1 (xAt m ρ c) : sProp 𝕄) = bufPts c (sent m ρ c) from (bufPts_eq c (sent m ρ c)).symm)) $$ Hbuf
  -- the second half
  iapply (rest_ok m ρ sw K c (fun _ => bodyPost m ρ sw c) (wordAt c (tAt m ρ c)) hword hchk)
  isplitl [Hpos T1 T2 T3 HC HO Hkept Hbuf']
  · unfold midway owesSome
    isplitr
    · isplitr; · iexact HI
      isplitr; · iexact HR
      iexact Hlev
    isplitl [Hpos]; · iexact Hpos
    isplitl [T1 T2 T3]
    · isplitl [T2]; · iexact T2
      isplitl [T1] <;> iassumption
    isplitl [HC]; · iexact HC
    isplitl [HO]; · iexists W; iexact HO
    isplitl [Hkept] <;> iassumption
  unfold ended owesSome
  iintro ⟨HΦ, ⟨%W', HO⟩⟩
  unfold bodyPost Dat.owesAt Pipeline.owesWithin
  rw [show (dats m ρ sw 0 c).owed t₀.succ = 0 from rfl]
  isplitl [HΦ]; · iexact HΦ
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Ht

set_option maxRecDepth 4000 in
/-- The pipeline's obligation on device `c`. -/
theorem body_obligation (h : TableOK m sw) (c : Dev nD) : BodyObligation (dats (F := F) m ρ sw 0 c) (defs₀ (F := F)) 𝒱₀ () Set.univ := fun t => by
  rw [fin_N t, bigSep_W0, bigSep_W0]
  simp only [owns_whole_eq]
  exact body_ok m ρ sw h c

end Cert.Exchange

end
-- ==== Proof.Run.lean ====
/-
The launch: the exchange's cells are set up on all four devices, the four bodies run, and what every final state holds is
read off. Stated over any float values, for the permutation that a Boolean `sw` names.
-/
module

public import proofs.«01_k».proof.Proof.Execute
public import Idealize.ShloMosaic.Lib.Pipeline.CollectiveSegs

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (sw : Bool)

/-- What the launch hands the kernel of its own three semaphores. -/
abbrev ownZero (c : Dev nD) : sProp 𝕄 := Pipeline.ownSems0 ownSem c

/-! ## The ghost state at launch -/

/-- The kernel's own semaphores are none of the pipeline's. -/
theorem ownSemFacts : Pipeline.OwnSemFacts cfg0.spec ownSem := by decide

/-- Every window is held whole. -/
theorem share_eq (c : Dev nD) (w : Fin cfg0.W) : (dats m ρ sw 0 c).share w = fullShare := by unfold Dat.share; split <;> rfl

/-- The sixteen cells. -/
def cells : Finset (GSem nD τ sig) := Finset.univ.map ⟨fun ck : Dev nD × Fin 4 => cell ck.1 ck.2, cell_injective⟩

/-- One token a cell, for its one payment. -/
def tokens : Finset (GSem nD τ sig × ℕ × Unit) :=
  Finset.univ.map ⟨fun ck : Dev nD × Fin 4 => (cell ck.1 ck.2, 0, ()), fun _ _ h => cell_injective (congrArg Prod.fst h)⟩

/-- The launch element: the pipeline's cells, and the exchange's. -/
def u₀ : UU :=
  (initOf (Pipeline.cells cfgs cellOf_inj) (Pipeline.launchToks cfgs cellOf_inj), initOf cells tokens)

/-- What it deals device `c`: for each of its four cells the state, the position, the round reached, the token. -/
def dealt (c : Dev nD) : sProp 𝕄 :=
  iprop((bigSep Finset.univ fun k : Fin 4 => roundState EX (plan m ρ sw) (cell c k) 0)
    ∗ (bigSep Finset.univ fun k : Fin 4 => atPos EX (cell c k) 0 ∅ 0)
    ∗ (bigSep Finset.univ fun k : Fin 4 => reached EX (cell c k) 0)
    ∗ bigSep Finset.univ fun k : Fin 4 => dutyTok EX (cell c k) 0 ())

omit [FloatOps F] in
/-- Four of a kind, written out. -/
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- What is said of all cells is said of each device's four. -/
theorem over_cells (Φ : GSem nD τ sig → sProp 𝕄) :
    bigSep cells Φ = bigSep Finset.univ fun c : Dev nD => bigSep Finset.univ fun k : Fin 4 => Φ (cell c k) := by
  unfold cells; rw [bigSep_map, bigSep_univ_prod]; rfl

omit [FloatOps F] in
/-- And what is said of all tokens, of the tokens of each device's four. -/
theorem over_tokens : bigSep tokens (fun x => (dutyTok EX x.1 x.2.1 x.2.2 : sProp 𝕄))
    = bigSep Finset.univ fun c : Dev nD => bigSep Finset.univ fun k : Fin 4 => dutyTok EX (cell c k) 0 () := by
  unfold tokens; rw [bigSep_map, bigSep_univ_prod]; rfl

/-- The exchange's half of the launch element is what is dealt. -/
theorem fund : BI.own (EX (initOf cells tokens)) ⊢ (|==> bigSep Finset.univ (dealt m ρ sw) : sProp 𝕄) := by
  iintro HX
  imod (Rounds.fund EX (plan m ρ sw) cells tokens) $$ HX with ⟨Hst, Hr, Hat, Htok⟩
  imodintro
  ihave Hst := (Entails.of_eq (over_cells fun g => roundState EX (plan m ρ sw) g 0)) $$ Hst
  ihave Hat := (Entails.of_eq (over_cells fun g => atPos EX g 0 ∅ 0)) $$ Hat
  ihave Hr := (Entails.of_eq (over_cells fun g => reached EX g 0)) $$ Hr
  ihave Htok := (Entails.of_eq over_tokens) $$ Htok
  unfold dealt; simp only [bigSep_sep']
  isplitl [Hst]; · iexact Hst
  isplitl [Hat]; · iexact Hat
  isplitl [Hr] <;> iassumption

/-! ## The counters -/

omit [FloatOps F] in
/-- The kernel's own three counters, -/
theorem ownSems0_eq (c : Dev nD) : (ownZero c : sProp 𝕄)
    = iprop(semVal (cell c 1) 0 ∗ semVal (cell c 2) 0 ∗ semVal (cell c 3) 0) :=
  (Pipeline.ownSems0_eq_of_list c ownSem [0, 1, 2] (by decide) (by decide)).trans rfl
omit [FloatOps F] in
/-- and the runtime's one. -/
theorem unscopedSems0_eq (c : Dev nD) : (unscopedSems0 c : sProp 𝕄) = semVal (cell c 0) 0 := by
  unfold unscopedSems0; rw [bigSep_eq_bigSepL_of_eq [semOf 0] (by decide) (by decide)]; rfl

/-- Each counter at zero and its cell's state make the cell's invariant. -/
theorem alloc (c : Dev nD) :
    iprop(ownZero c ∗ unscopedSems0 c ∗ dealt m ρ sw c)
      ⊢ |={Set.univ}=> iprop((bigSep Finset.univ fun k => iprop(∃ κ : ℕ, cellInv EX (plan m ρ sw) κ (cell c k)))
          ∗ (bigSep Finset.univ fun k : Fin 4 => atPos EX (cell c k) 0 ∅ 0)
          ∗ (bigSep Finset.univ fun k : Fin 4 => reached EX (cell c k) 0)
          ∗ bigSep Finset.univ fun k : Fin 4 => dutyTok EX (cell c k) 0 ()) := by
  have hv : iprop(ownZero c ∗ unscopedSems0 c) ⊢ (bigSep Finset.univ fun k : Fin 4 => semVal (cell c k) 0 : sProp 𝕄) := by
    rw [ownSems0_eq, unscopedSems0_eq, four]
    iintro ⟨H, H0⟩
    isplitl [H0] <;> iassumption
  have hi : iprop((bigSep Finset.univ fun k : Fin 4 => semVal (cell c k) 0) ∗ bigSep Finset.univ fun k : Fin 4 => roundState EX (plan m ρ sw) (cell c k) 0)
      ⊢ (|={Set.univ}=> bigSep Finset.univ fun k => iprop(∃ κ : ℕ, cellInv EX (plan m ρ sw) κ (cell c k)) : sProp 𝕄) := by
    rw [← bigSep_sep']
    exact (bigSep_mono fun k _ => (Rounds.body_intro EX (plan m ρ sw) (cell c k)).trans inv_alloc).trans (bigSep_fupd _ _)
  unfold dealt
  iintro ⟨Hos, Hus, Hst, Hrest⟩
  ihave Hv := hv $$ [Hos Hus]
  · isplitl [Hos] <;> iassumption
  imod hi $$ [Hv Hst] with Hinv
  · isplitl [Hv] <;> iassumption
  imodintro
  isplitl [Hinv] <;> iassumption

/-! ## Shared knowledge and what each device keeps -/

/-- What every device may know: each cell's invariant, and that it is in round 0. -/
def known (K : Dev nD × Fin 4 → ℕ) : sProp 𝕄 :=
  iprop((bigSep Finset.univ fun ck : Dev nD × Fin 4 => cellInv EX (plan m ρ sw) (K ck) (cell ck.1 ck.2))
    ∗ bigSep Finset.univ fun ck : Dev nD × Fin 4 => reached EX (cell ck.1 ck.2) 0)

instance known_persistent (K : Dev nD × Fin 4 → ℕ) : BI.Persistent (known (F := F) m ρ sw K) := by unfold known; infer_instance

/-- What is known of all cells is known of one: its invariant, -/
theorem known_inv (K : Dev nD × Fin 4 → ℕ) (c : Dev nD) (k : Fin 4) :
    (known m ρ sw K : sProp 𝕄) ⊢ cellInv EX (plan m ρ sw) (K (c, k)) (cell c k) := by
  unfold known
  iintro ⟨H, -⟩
  have h : (bigSep Finset.univ fun ck : Dev nD × Fin 4 => (cellInv EX (plan m ρ sw) (K ck) (cell ck.1 ck.2) : sProp 𝕄))
      ⊢ cellInv EX (plan m ρ sw) (K (c, k)) (cell c k) := bigSep_elim (Finset.mem_univ (c, k))
  iapply h; iexact H

/-- and that it is at round 0. -/
theorem known_reached (K : Dev nD × Fin 4 → ℕ) (c : Dev nD) (k : Fin 4) :
    (known m ρ sw K : sProp 𝕄) ⊢ reached EX (cell c k) 0 := by
  unfold known
  iintro ⟨-, H⟩
  have h : (bigSep Finset.univ fun ck : Dev nD × Fin 4 => (reached EX (cell ck.1 ck.2) 0 : sProp 𝕄)) ⊢ reached EX (cell c k) 0 :=
    bigSep_elim (Finset.mem_univ (c, k))
  iapply h; iexact H

/-- A device's ghost state is that knowledge, its positions and the tokens of its payments. -/
theorem ghost_intro (K : Dev nD × Fin 4 → ℕ) (c : Dev nD) :
    iprop(known m ρ sw K ∗ positions c ∗ payments c) ⊢ (iprop(∃ K, ghost m ρ sw K c) : sProp 𝕄) := by
  iintro ⟨#HK, Hpos, Hpay⟩
  iexists K
  unfold ghost invs marks
  isplitr
  · isplitr
    · isplitr; · iapply (known_inv m ρ sw K c 0); iexact HK
      isplitr; · iapply (known_inv m ρ sw K c 1); iexact HK
      isplitr; · iapply (known_inv m ρ sw K c 2); iexact HK
      iapply (known_inv m ρ sw K c 3); iexact HK
    isplitr; · iapply (known_inv m ρ sw K (partner c) 0); iexact HK
    iapply (known_inv m ρ sw K (partner c) 2); iexact HK
  isplitr
  · isplitr; · iapply (known_reached m ρ sw K (partner c) 0); iexact HK
    isplitr; · iapply (known_reached m ρ sw K c 1); iexact HK
    isplitr; · iapply (known_reached m ρ sw K c 2); iexact HK
    iapply (known_reached m ρ sw K c 3); iexact HK
  isplitl [Hpos] <;> iassumption

omit [FloatOps F] in
/-- The tokens of barrier and receive cells go to the partners, who pay them. -/
theorem hand_tokens : (bigSep Finset.univ fun c : Dev nD => (bigSep Finset.univ fun k : Fin 4 => dutyTok EX (cell c k) 0 () : sProp 𝕄))
    ⊢ bigSep Finset.univ fun c : Dev nD => payments c := by
  unfold payments
  rw [bigSep_congr fun (c : Dev nD) _ => four (F := F) fun k => dutyTok EX (cell c k) 0 ()]
  simp only [bigSep_sep']
  rw [bigSep_univ_equiv partners (fun c : Dev nD => (dutyTok EX (cell c 0) 0 () : sProp 𝕄)),
    bigSep_univ_equiv partners (fun c : Dev nD => (dutyTok EX (cell c 2) 0 () : sProp 𝕄))]
  iintro ⟨H0, H1, H2, H3⟩
  isplitl [H0]; · iexact H0
  isplitl [H2]; · iexact H2
  isplitl [H1] <;> iassumption

/-- All the devices' shares together make every device's ghost state. -/
theorem regroup :
    (bigSep Finset.univ fun c : Dev nD => iprop((bigSep Finset.univ fun k => iprop(∃ κ : ℕ, cellInv EX (plan m ρ sw) κ (cell c k)))
          ∗ (bigSep Finset.univ fun k : Fin 4 => atPos EX (cell c k) 0 ∅ 0)
          ∗ (bigSep Finset.univ fun k : Fin 4 => reached EX (cell c k) 0)
          ∗ bigSep Finset.univ fun k : Fin 4 => dutyTok EX (cell c k) 0 ()) : sProp 𝕄)
      ⊢ bigSep Finset.univ fun c => iprop(∃ K, ghost m ρ sw K c) := by
  rw [bigSep_sep', bigSep_sep', bigSep_sep',
    ← bigSep_univ_prod (fun ck : Dev nD × Fin 4 => iprop(∃ κ : ℕ, cellInv EX (plan m ρ sw) κ (cell ck.1 ck.2))),
    ← bigSep_univ_prod (fun ck : Dev nD × Fin 4 => (reached EX (cell ck.1 ck.2) 0 : sProp 𝕄))]
  iintro ⟨HI, Hat, #HR, Htok⟩
  ihave HK := (BI.bigSep_exists_pi Finset.univ (fun (ck : Dev nD × Fin 4) (κ : ℕ) => (cellInv EX (plan m ρ sw) κ (cell ck.1 ck.2) : sProp 𝕄))) $$ HI
  icases HK with ⟨%K, #HI⟩
  ihave Hpay := (hand_tokens (F := F)) $$ Htok
  have hpos : (bigSep Finset.univ fun c : Dev nD => (bigSep Finset.univ fun k : Fin 4 => atPos EX (cell c k) 0 ∅ 0 : sProp 𝕄))
      ⊢ bigSep Finset.univ fun c : Dev nD => positions c :=
    bigSep_mono fun c _ => show _ ⊢ positions c from Entails.of_eq (by unfold positions; rw [four])
  ihave Hpos := hpos $$ Hat
  have hall : iprop(known m ρ sw K ∗ bigSep Finset.univ fun c : Dev nD => iprop(positions (F := F) c ∗ payments c))
      ⊢ bigSep Finset.univ fun c : Dev nD => iprop(∃ K, ghost m ρ sw K c) :=
    (sep_mono_left (BI.bigSep_of_persistent Finset.univ (known m ρ sw K))).trans
      (by rw [← bigSep_sep']; exact bigSep_mono fun c _ => ghost_intro m ρ sw K c)
  iapply hall
  rw [bigSep_sep']
  isplitr
  · unfold known; isplitl; · iexact HI
    iexact HR
  isplitl [Hpos] <;> iassumption

/-- The set-up of all devices at once. -/
theorem setup : (bigSep Finset.univ fun c => iprop(ownZero c ∗ unscopedSems0 c ∗ dealt m ρ sw c) : sProp 𝕄)
    ⊢ |={Set.univ}=> bigSep Finset.univ fun c => iprop(∃ K, ghost m ρ sw K c) :=
  ((bigSep_mono fun c _ => alloc m ρ sw c).trans (bigSep_fupd _ _)).trans (BI.fupd_mono (regroup m ρ sw))

/-! ## The credit at launch -/

/-- A device owes a unit to its partner's barrier cell and to no other, -/
theorem owed_bar (d c : Dev nD) : O₀ sw d (cell c 0) () = if d = partner c then 1 else 0 := by
  unfold O₀ O₁
  rw [Pi.add_apply, Finsupp.add_apply, tallyAt_apply, tallyAt_apply,
    if_neg (fun h => absurd (cell_eq_iff.mp h.1).2 (by decide)), Nat.zero_add]
  exact if_congr ⟨fun h => eq_partner_iff.mp (cell_eq_iff.mp h.1).1, fun h => ⟨by rw [eq_partner_iff.mpr h], rfl⟩⟩ rfl rfl

/-- and a swap's credit to its partner's receive cell and to no other. -/
theorem owed_recv (d c : Dev nD) : O₀ sw d (cell c 2) () = if d = partner c then owedN sw else 0 := by
  unfold O₀ O₁
  rw [Pi.add_apply, Finsupp.add_apply, tallyAt_apply, tallyAt_apply,
    if_neg (c := cell c 2 = cell (partner d) 0 ∧ () = ()) (fun h => absurd (cell_eq_iff.mp h.1).2 (by decide)), Nat.add_zero]
  exact if_congr ⟨fun h => eq_partner_iff.mp (cell_eq_iff.mp h.1).1, fun h => ⟨by rw [eq_partner_iff.mpr h], rfl⟩⟩ rfl rfl

/-- A cell that only the partner owes gets the credit of what the partner owes. -/
theorem launch_cell (c : Dev nD) (k : Fin 4) (n : ℕ) (h : ∀ d, O₀ sw d (cell c k) () = if d = partner c then n else 0) :
    tallyOn (cell c k) (launchCredit (Pipeline.owing (O₀ sw)) 0 (cell c k)) = (tallyAt (cell c k) () n : CellTallies nD τ sig Unit) := by
  unfold tallyAt
  refine congrArg _ (Finsupp.ext fun u => ?_)
  rw [Pipeline.launchCredit_owing, Finsupp.single_eq_same, Finset.sum_congr rfl fun d _ => h d,
    Finset.sum_ite_eq' Finset.univ (partner c) fun _ => n, if_pos (Finset.mem_univ _)]

omit [FloatOps F] in
/-- The credits that the launch hands device `c`, of its barrier and its receive cell. -/
theorem credits (c : Dev nD) :
    (Pipeline.launchCred (O₀ sw) c : sProp 𝕄) ⊢ iprop(cred (tallyAt (cell c 0) () 1) ∗ cred (tallyAt (cell c 2) () (owedN sw))) := by
  unfold Pipeline.launchCred
  rw [bigSep_univ_at _ (semOf 0), launch_cell sw c 0 1 fun d => owed_bar sw d c, ← launch_cell sw c 2 (owedN sw) fun d => owed_recv sw d c]
  exact sep_mono_right (bigSep_elim (Finset.mem_erase.mpr ⟨fun h => absurd (semOf_eq_iff (k := 2) (l := 0) |>.mp h) (by decide), Finset.mem_univ _⟩))

/-! ## Into and out of the pipeline -/

/-- What the launch leaves a device is what its body starts from, -/
theorem start_intro (c : Dev nD) :
    iprop(Pipeline.unscopedRestP Pipeline.Prefetch.none cfg0.spec c (fun b => m ((c : Thread nD τ).loc b)) ∗ levAts L lv
        ∗ Pipeline.launchCred (O₀ sw) c ∗ prngReg c (ρ c) ∗ iprop(∃ K, ghost m ρ sw K c))
      ⊢ (|={Set.univ}=> iprop(start m ρ sw c ∗ emp) : sProp 𝕄) := by
  rw [Pipeline.unscopedRestP_none, unscopedRest0_eq]
  iintro ⟨Hout, Hlev, Hcr, -, HG⟩
  ihave Hc := (credits (F := F) sw c) $$ Hcr
  imodintro
  unfold start
  isplitl
  · isplitl [HG]; · iexact HG
    isplitl [Hc]; · iexact Hc
    isplitl [Hlev]; · iexact Hlev
    iexists (m ((c : Thread nD τ).loc main_v1))
    rw [outPts_eq]; iexact Hout
  · iempintro

/-- with the buffer that transfers read; -/
theorem enter (c : Dev nD) :
    iprop(start m ρ sw c ∗ Pipeline.prefHeld Pipeline.Prefetch.none c (fun _ => fullShare.right) (fun k => k.elim0) ∗ Pipeline.scopedRest cfg0.spec c)
      ⊢ (dats m ρ sw 0 c).Φ 0 := by
  rw [show (dats m ρ sw 0 c).Φ 0 = Φ₀ m ρ sw c from rfl, scopedRest0_eq]
  unfold Φ₀
  iintro ⟨Hs, -, ⟨%f, Hr⟩⟩
  isplitl [Hs]; · iexact Hs
  iexists f; rw [bufPts_eq]; iexact Hr

/-- and what the body ends with gives the counters and the buffer back and keeps the result. -/
theorem leave (c : Dev nD) :
    (dats m ρ sw 0 c).Φ (Fin.last cfg0.N)
      ⊢ iprop((unscopedSems0 c ∗ outPts c (result m ρ sw c)) ∗ ownZero c ∗ Pipeline.scopedRest cfg0.spec c) := by
  rw [show (dats m ρ sw 0 c).Φ (Fin.last cfg0.N) = Φ₁ m ρ sw c from rfl, scopedRest0_eq, ownSems0_eq, unscopedSems0_eq]
  unfold Φ₁
  iintro ⟨⟨Hout, Hbuf⟩, H0, Hown⟩
  isplitl [H0 Hout]
  · isplitl [H0] <;> iassumption
  isplitl [Hown]; · iexact Hown
  iexists (sent m ρ c); rw [← bufPts_eq]; iexact Hbuf

/-- The pipeline's own waits are in order. -/
theorem waits (c : Dev nD) : (levAts L lv : sProp 𝕄) ⊢ Pipeline.cellsWaits cfgs (dats m ρ sw) () 0 c :=
  Pipeline.cellsWaits_intro cfgs (dats m ρ sw) () 0 c fun w s t =>
    mayWait_stage sw c _ (by fin_cases w <;> fin_cases s <;> decide) _ (by
      rcases t with ⟨_ | _, ht⟩
      · exact Or.inl rfl
      · exact Or.inr rfl)

/-- Of a final state: the runtime's counter and the result of device `c`. -/
theorem observe (c : Dev nD) (s' : Phys nD τ sig (Elt F)) :
    iprop((unscopedSems0 c ∗ outPts c (result m ρ sw c)) ∗ emp ∗ SI s')
      ⊢ (|={Set.univ}=> iprop(⌜(∀ sm : SemLoc sig, sm.isScoped .tc = false → s'.mem.sem ((c.tc : Thread nD τ), sm) = 0)
          ∧ s'.mem.mem ((c : Thread nD τ).loc main_v1) = result m ρ sw c⌝ ∗ SI s') : sProp 𝕄) := by
  rw [outPts_eq]
  iintro ⟨⟨Hu, Hout⟩, -, HSI⟩
  icombine HSI Hout gives %hout
  imod (Pipeline.unscopedSems0_read (X := (unscopedSems0 c : sProp 𝕄)) (c := c) fupd_intro s') $$ [Hu HSI] with ⟨%hsem, HSI⟩
  · isplitl [Hu] <;> iassumption
  imodintro
  isplitr
  · ipureintro; exact ⟨hsem, Buf.eq_of_forall_mem_univ hout⟩
  iexact HSI

/-! ## The run -/

/-- What every final state holds: the arguments as they were, the result as the permutation gives it, all counters zero. -/
def Done (s : MemSt nD τ sig (Elt F)) : Prop :=
  (∀ c : Dev nD, s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1) = result m ρ sw c) ∧ s.sem = fun _ => 0

set_option maxRecDepth 8000 in
/-- From any memory whose tables name the permutation `sw`, with zero counters, every weakly fair execution of the four
    devices ends, and in every final state the arguments are unchanged, each result is the block of its origin, and all
    counters are zero. -/
theorem run_main (h : TableOK m sw) : θ_run defs (onTc (τ := τ) (main (F := F))) (s₀ m ρ) (fun r => Done m ρ sw r.2) :=
  Pipeline.θ_run_region_owing_glob_pf (fun p => (cfgs p).toPCfg) (fun p => (cfgs p).toPCfg_adm) (dats m ρ sw) () cellOf_inj (0 : Fin 1)
    winFacts0.to₀ ownSemFacts (Pipeline.PreFacts.none _) EP defs₀ 𝒱₀ m ρ main
    (hmain := fun _ => rfl)
    (hbody := body_obligation m ρ sw h) (hne := fun w => by fin_cases w <;> exact Nat.succ_pos _) (harr := arr_whole0) (hstage := stage_whole0)
    (hshare := share_eq m ρ sw) (hdistinct := winFacts0.arr_inj)
    (O₀ := O₀ sw) (howed₀ := fun _ => rfl) (howedN := fun _ => rfl)
    (L := L) (lv := lv) (hL := L_of_ne) (hwaits := waits m ρ sw)
    (G := dealt m ρ sw) (G' := fun c => iprop(∃ K, ghost m ρ sw K c)) (u₀ := u₀)
    (hu₀ := by
      unfold u₀
      iintro Hu
      ihave H := (ownU_pair _ _) $$ Hu
      icases H with ⟨HP, HX⟩
      imod (fund m ρ sw) $$ HX with HG
      imodintro
      isplitl [HP] <;> iassumption)
    (hglob := setup m ρ sw)
    (hA := fun _ _ => rfl) (hpf := fun _ k => k.elim0)
    (X := start m ρ sw) (Y := fun c => iprop(unscopedSems0 c ∗ outPts c (result m ρ sw c))) (Z := fun _ => iprop(emp))
    (hX := start_intro m ρ sw) (hin := enter m ρ sw) (hout := leave m ρ sw)
    (QY := fun c s => (∀ sm : SemLoc sig, sm.isScoped .tc = false → s.sem ((c.tc : Thread nD τ), sm) = 0)
      ∧ s.mem ((c : Thread nD τ).loc main_v1) = result m ρ sw c)
    (hY := observe m ρ sw)
    (hQ := fun s hs hz => ⟨fun c =>
      ⟨((hs c).1 (0 : Fin 2)).trans ((dats (F := F) m ρ sw 0 c).arrAt_in (0 : Fin 2) rfl _),
        ((hs c).1 (1 : Fin 2)).trans ((dats (F := F) m ρ sw 0 c).arrAt_in (1 : Fin 2) rfl _), (hs c).2.2.2⟩,
      sem_eq_zero hz fun c => (hs c).2.2.1⟩)

end Cert.Exchange

end
-- ==== Proof.Reference.lean ====
/-
What the reference computes: on the two permutations of two places, the array whose row `i` is row `i` of `x` where the
permutation keeps `i`, and the other row of `x` where it exchanges the two.
-/
module

public import proofs.«01_k».proof.Proof.Gen.ReferenceIdeal
public import proofs.«01_k».proof.Proof.Gen.ReferenceIdeal.Run
public import Idealize.ShloMosaic.PureOps.Ideal
public import Idealize.ShloMosaic.Lib.ValueIdxCore
public import Idealize.ShloMosaic.Lib.Quiescent

@[expose] public section

noncomputable section

namespace Cert.Gathered

open Cert.ReferenceIdeal Cert.ReferenceIdeal.Gen
open Idealize.ShloMosaic

/-- The permutation as the table that the arguments hold: with `sw` the two places exchanged, without it the identity. -/
def table (sw : Bool) : IVec S2 32 := fun i => BitVec.ofNat 32 (if sw then 1 - (i 0).val else (i 0).val)

/-- The places in the order of what a permutation holds at them. -/
abbrev order (pi : IVec S2 32) : IVec S2 32 := (Host.sort2 S2 0 comparator_i32_i32_d0 pi (iotaInDim S2 32 0)).2

/-- Either permutation of two is its own inverse. -/
theorem order_table (sw : Bool) : order (table sw) = table sw := by cases sw <;> decide

/-- The row numbers as the gather takes them: a negative one counts from the end. -/
abbrev wrapped (p : IVec S2 32) : IVec S2 32 :=
  select (cmpi .slt p (broadcastInDim S2 ![] bcast_S_S2 (constantI S_ 32 0#32))) (addi p (broadcastInDim S2 ![] bcast_S_S2 (constantI S_ 32 2#32))) p

/-- None of a permutation's is negative. -/
theorem wrapped_table (sw : Bool) : wrapped (table sw) = table sw := by cases sw <;> decide

/-- The row of `x` that row `i` of the result is. -/
def rowOf (sw : Bool) (i : Fin 2) : Fin 2 := if sw then ⟨1 - i.val, by omega⟩ else i

/-- The element of `x` that the result holds at `j`: in the row so named, at the same two further coordinates. -/
def sourceOf (sw : Bool) (j : S2x256x256.Idx) : S2x256x256.Idx := fun a => match a with
  | ⟨0, _⟩ => rowOf sw (j 0)
  | ⟨1, _⟩ => j 1
  | ⟨2, _⟩ => j 2

/-- Row `i` in the column of row numbers. -/
def startOf (i : Fin 2) : S2x1.Idx := fun a => match a with
  | ⟨0, _⟩ => i
  | ⟨1, _⟩ => (0 : Fin 1)

/-- How the gather takes whole rows of `x`. -/
abbrev rowsOf : GatherDims S2x256x256 S2x1 S2x256x256 := gather_S2x256x256_S2x1_S2x256x256_12_0_n_n_0_1_1256256

/-- The gather reads the row number of row `j 0` for the element at `j`. -/
theorem siIdx_eq (j : S2x256x256.Idx) (k : Fin rowsOf.startIndexMap.length) : rowsOf.siIdx j k = startOf (j 0) := by
  funext b; refine Fin.ext ?_
  match b with
  | ⟨0, _⟩ => rfl
  | ⟨1, _⟩ => exact Nat.lt_one_iff.mp k.isLt

/-- The column of a permutation's row numbers. -/
abbrev starts (sw : Bool) : IVec S2x1 32 := broadcastInDim S2x1 ![0] bcast_S2_S2x1_0 (table sw)

/-- Read as a number that must name one of two rows, the entry of row `i` names its source. -/
theorem starts_row (sw : Bool) (i : Fin 2) : min ((starts sw (startOf i)).toInt.toNat) 1 = (rowOf sw i).val := by
  revert i; cases sw <;> decide

/-- Along the two further axes a row starts at its beginning. -/
theorem start_later (j : S2x256x256.Idx) (p : IVec S2x1 32) (a : Fin 3) (ha : a.val ≠ 0) : rowsOf.start j p a = 0 :=
  dif_neg fun h => ha (congrArg Fin.val (List.mem_singleton.mp h))

/-- Gathering the rows that a permutation names moves each element from its source. -/
theorem gather_eq {α : Type} (sw : Bool) (x : S2x256x256.Idx → α) :
    Host.gather rowsOf x (starts sw) = fun j => x (sourceOf sw j) := by
  funext j
  unfold Host.gather
  refine congrArg x (funext fun a => Fin.ext ?_)
  show rowsOf.start j (starts sw) a + rowsOf.batchCoord j a + rowsOf.offCoord j a = _
  rw [GatherDims.batchCoord_eq_zero _ _ _ List.not_mem_nil]
  match a with
  | ⟨0, h0⟩ =>
    rw [GatherDims.offCoord_eq_zero _ _ _ (fun h => ((GatherDims.mem_sKept _ _).mp h).1 (List.mem_singleton.mpr rfl))]
    unfold GatherDims.start
    rw [dif_pos (show (⟨0, h0⟩ : Fin 3) ∈ rowsOf.startIndexMap from List.mem_singleton.mpr rfl), siIdx_eq]
    exact starts_row sw (j 0)
  | ⟨1, _⟩ =>
    rw [start_later _ _ _ Nat.one_ne_zero]
    exact Nat.zero_add _
  | ⟨2, _⟩ =>
    rw [start_later _ _ _ (Nat.succ_ne_zero 1)]
    exact Nat.zero_add _

/-- The reference's result on a permutation: every element of `x` moved from its source. -/
abbrev moved {α : Type} (sw : Bool) (x : S2x256x256.Idx → α) : S2x256x256.Idx → α := fun j => x (sourceOf sw j)

/-- Where the second argument is a permutation, the reference ends with its result at the moved rows of `x` and with its
    arguments as they were. The two format changes are the identity on exact values. -/
theorem run (sw : Bool) (m : (ℓ : Loc nD τ sig) → Buf (Elt Ideal) ℓ) (ρ : Dev nD → PrngReg)
    (h : m ((0 : Dev nD).tc.loc main_arg1) = table sw) :
    θ_run defs (onTc (τ := τ) (main (F := Ideal))) ⟨m, fun _ => 0, ρ⟩ fun r =>
      r.2.mem ((0 : Dev nD).tc.loc main_v9) = moved sw (m ((0 : Dev nD).tc.loc main_arg0))
      ∧ r.2.mem ((0 : Dev nD).tc.loc main_arg0) = m ((0 : Dev nD).tc.loc main_arg0)
      ∧ r.2.mem ((0 : Dev nD).tc.loc main_arg1) = m ((0 : Dev nD).tc.loc main_arg1) :=
  (θ_run defs _ _).mono (fun r hr => by
    obtain ⟨hv, h0, h1⟩ := hr 0
    refine ⟨hv.trans ?_, h0, h1⟩
    rw [h]
    show truncf (F := Ideal) .bf16 (extf .f32 (Host.gather rowsOf _ (broadcastInDim S2x1 ![0] bcast_S2_S2x1_0 (wrapped (order (table sw))))) bitsLt_bf16_f32) bitsLt_bf16_f32 = _
    rw [order_table, wrapped_table, gather_eq]
    rfl) (Value.run m ρ)

/-- From any memory the reference ends with its arguments as they were; it has no semaphore. -/
theorem frame (m : (ℓ : Loc nD τ sig) → Buf (Elt Ideal) ℓ) (ρ : Dev nD → PrngReg) :
    θ_run defs (onTc (τ := τ) (main (F := Ideal))) ⟨m, fun _ => 0, ρ⟩ fun r =>
      (∀ c : Dev nD, r.2.mem (c.tc.loc main_arg0) = m (c.tc.loc main_arg0) ∧ r.2.mem (c.tc.loc main_arg1) = m (c.tc.loc main_arg1))
      ∧ r.2.sem = fun _ => 0 :=
  (θ_run defs _ _).mono (fun r hr => ⟨fun c => (hr c).2, sem_eq_zero_of_no_sems (by decide) r.2⟩) (Value.run m ρ)

end Cert.Gathered

end
-- ==== Proof.Equation.lean ====
/-
The equation between the two programs: where every device holds its block of `x` and the whole permutation, the block that
the kernel leaves on a device is that device's block of the reference's result. And what the two preconditions say of the
permutation.
-/
module

public import proofs.«01_k».proof.Defs
public import proofs.«01_k».proof.Proof.Gen.Pre_swap_Kernel
public import proofs.«01_k».proof.Proof.Gen.Pre_stay_Kernel
public import proofs.«01_k».proof.Proof.Body
public import proofs.«01_k».proof.Proof.Reference
public import Idealize.ShloMosaic.Lib.Pipeline.Value
public import Idealize.ShloMosaic.Lib.Layout

@[expose] public section

noncomputable section

namespace Cert.Exchange

open Cert.KernelIdeal Cert.KernelIdeal.Gen
open Idealize.ShloMosaic
open Idealize.ShloMosaic.TcCoe
open Cert.Gathered (table moved sourceOf rowOf)

variable {F : FTy → Type} [FloatOps F]

/-! ## The preconditions -/

/-- A conjunction of two comparisons that holds gives both equations. -/
theorem both {a b u v : BitVec 32} (h : IntOp.andi (IntOp.cmpi .eq a b) (IntOp.cmpi .eq u v) = 1#1) : a = b ∧ u = v := by
  have hand : ∀ p q : Bool, IntOp.andi (BitVec.ofBool p) (BitVec.ofBool q) = 1#1 → p = true ∧ q = true := by decide
  obtain ⟨h1, h2⟩ := hand _ _ h
  exact ⟨eq_of_beq h1, eq_of_beq h2⟩

/-- The two places of a permutation. -/
abbrev place (k : Fin 2) : S2.Idx := fun a => match a with | ⟨0, _⟩ => k

/-- A table of two words is known by its words at the two places. -/
theorem table_ext {t u : IVec S2 32} (h0 : t (place 0) = u (place 0)) (h1 : t (place 1) = u (place 1)) : t = u := by
  funext i
  have hi : i = place (i 0) := funext fun a => match a with | ⟨0, _⟩ => rfl
  rw [hi]
  match i 0 with
  | ⟨0, _⟩ => exact h0
  | ⟨1, _⟩ => exact h1

/-- The word at offset `k`, cut out of a table, is the table's word at place `k`. -/
theorem cut_word (t : IVec S2 32) (k : Fin 2) (h : S2.Slices ![k.val] S1) (i : S1.Idx) : extractStridedSlice S1 ![k.val] t h i = t (place k) := by
  refine congrArg t (funext fun a => Fin.ext ?_)
  match a with
  | ⟨0, _⟩ => exact (congrArg (k.val + ·) (Nat.lt_one_iff.mp (i ⟨0, Nat.zero_lt_one⟩).isLt)).trans (Nat.add_zero _)

/-- `swap` says that the table is the exchange, -/
theorem table_of_swap (x : FVec F S1x256x256 .bf16) (t : IVec S2 32) (h : Cert.Pre_swap_Kernel.fn x t = fun _ => 1#1) : t = table true := by
  have e := both (congrFun h fun a => a.elim0)
  have e0 : ∀ i, extractStridedSlice S1 ![0] t Cert.Pre_swap_Kernel.Facts.slices_S2_S1_0 i = t (place 0) := cut_word t 0 _
  have e1 : ∀ i, extractStridedSlice S1 ![1] t Cert.Pre_swap_Kernel.Facts.slices_S2_S1_1 i = t (place 1) := cut_word t 1 _
  exact table_ext ((e0 _).symm.trans (e.1.trans rfl)) ((e1 _).symm.trans (e.2.trans rfl))

/-- and `stay` that it is the identity. -/
theorem table_of_stay (x : FVec F S1x256x256 .bf16) (t : IVec S2 32) (h : Cert.Pre_stay_Kernel.fn x t = fun _ => 1#1) : t = table false := by
  have e := both (congrFun h fun a => a.elim0)
  have e0 : ∀ i, extractStridedSlice S1 ![0] t Cert.Pre_stay_Kernel.Facts.slices_S2_S1_0 i = t (place 0) := cut_word t 0 _
  have e1 : ∀ i, extractStridedSlice S1 ![1] t Cert.Pre_stay_Kernel.Facts.slices_S2_S1_1 i = t (place 1) := cut_word t 1 _
  exact table_ext ((e0 _).symm.trans (e.1.trans rfl)) ((e1 _).symm.trans (e.2.trans rfl))

variable (m : (ℓ : Loc nD τ sig) → Buf (Elt F) ℓ) (ρ : Dev nD → PrngReg) (sw : Bool)

omit [FloatOps F] in
/-- With that table on every device the run's condition holds. -/
theorem tableOK_of_eq (h : ∀ c : Dev nD, (m ((c : Thread nD τ).loc main_arg1) : IVec S2 32) = table sw) : TableOK m sw := fun c => by
  rw [h c]; rfl

/-! ## The values -/

omit [FloatOps F] in
/-- The staged block is the argument. -/
theorem xAt_eq (c : Dev nD) : xAt m ρ c = m ((c : Thread nD τ).loc main_arg0) := by
  exact Memref.read_access_unit_zero (Elt F) main_arg0 (funext fun a => Nat.zero_mul _) _ _

/-- What is sent is the argument too: the body changes no shape. -/
theorem sent_eq (c : Dev nD) : sent m ρ c = m ((c : Thread nD τ).loc main_arg0) := by
  unfold sent k0_pay1
  rw [xAt_eq]
  exact (shapeCast_self _ _).trans (shapeCast_self _ _)

/-- The block of `v` that a device holds: the half of its column. -/
abbrev half {α : Type} (c : Dev nD) (v : (⟨3, ![2, 256, 256]⟩ : Shape).Idx → α) : (⟨3, ![1, 256, 256]⟩ : Shape).Idx → α :=
  Layout.blockN ⟨3, ![1, 256, 256]⟩ ⟨3, ![2, 256, 256]⟩ (Layout.meshBlock [2, 2] ![[1], [], []] c) v

/-- The column of the device whose block ends up on `c` is the row that the reference names. -/
theorem origin_column (c : Dev nD) : (origin sw c).val % 2 = (rowOf sw ⟨c.val % 2, Nat.mod_lt _ (by decide)⟩).val := by
  revert c; cases sw <;> decide

/-- The tiling of the whole array by two halves. -/
theorem halves : Layout.TilesN ⟨3, ![1, 256, 256]⟩ ⟨3, ![2, 256, 256]⟩ (fun b => Layout.cutSize [2, 2] (![[1], [], []] b)) := by decide

/-- A device's half is the row of its column. -/
theorem half_row (c : Dev nD) (i : (⟨3, ![1, 256, 256]⟩ : Shape).Idx) :
    halves.idx (Layout.meshBlock [2, 2] ![[1], [], []] c) i 0 = (⟨c.val % 2, Nat.mod_lt _ (by decide)⟩ : Fin 2) := by
  refine Fin.ext ?_
  have hi : (i 0).val = 0 := Nat.lt_one_iff.mp (i 0).isLt
  have hc : ∀ c : Dev nD, Layout.meshLin [2, 2] c.val [1] * 1 + 0 = c.val % 2 := by decide
  rw [Layout.TilesN.idx_val]
  refine Eq.trans ?_ (hc c)
  exact congrArg (Layout.meshLin [2, 2] c.val [1] * 1 + ·) hi

/-- The block of `x` on the origin is `c`'s block of the moved rows. -/
theorem half_origin {α : Type} (c : Dev nD) (x : (⟨3, ![2, 256, 256]⟩ : Shape).Idx → α) : half (origin sw c) x = half c (moved sw x) := by
  funext i
  refine congrArg x (funext fun a => Fin.ext ?_)
  match a with
  | ⟨0, _⟩ =>
    refine (congrArg Fin.val (half_row (origin sw c) i)).trans ((origin_column sw c).trans ?_)
    exact (congrArg (fun r => (rowOf sw r).val) (half_row c i)).symm
  | ⟨1, _⟩ => rfl
  | ⟨2, _⟩ => rfl

/-- So the kernel's result on `c`, run from the blocks of `x`, is `c`'s block of the moved rows. -/
theorem result_eq (x : (⟨3, ![2, 256, 256]⟩ : Shape).Idx → Elt F .bf16)
    (hx : ∀ c : Dev nD, m ((c : Thread nD τ).loc main_arg0) = half c x) (c : Dev nD) : result m ρ sw c = half c (moved sw x) := by
  unfold result
  rw [sent_eq, hx, half_origin]

end Cert.Exchange

end
-- ==== Proof.Same.lean ====
/-
The kernel over bits and the kernel over real numbers are one text, printed twice. Their tables of functions are therefore
equal, and what is proved of the one holds of the other.
-/
module

public import proofs.«01_k».proof.Proof.Gen.Kernel
public import proofs.«01_k».proof.Proof.Gen.KernelIdeal

@[expose] public section

noncomputable section

namespace Cert.Same

open Idealize.ShloMosaic

variable {F : FTy → Type} [FloatOps F]

/-- The two kernels' tables have one entry each, the body; a processor of another kind has none. -/
theorem kernels : Cert.Kernel.defs₀ (F := F) = Cert.KernelIdeal.defs₀ (F := F) := by
  funext p l a
  match p, l, a with
  | .tc, ⟨0, _⟩, (_, _) => rfl
  | .scScalar _, _, _ => rfl
  | .scVector _ _, _, _ => rfl

/-- So the programs' tables, which put the same launch on top of them, are equal. -/
theorem tables : Cert.Kernel.defs (F := F) = Cert.KernelIdeal.defs (F := F) :=
  congrArg (Pipeline.defs (Cert.KernelIdeal.pcfgs (F := F))) kernels

end Cert.Same

end
-- ==== Proof.lean ====
/-
The certificate: the claim that `Defs.lean` states, from the run of the four devices, the run of the reference and the
equation of their values. The two kernel programs have the same text, so that the run proved over any float values gives
the frames of both.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_swap_Kernel
public import proofs.«01_k».proof.Proof.Gen.Pre_stay_Kernel
public import proofs.«01_k».proof.Proof.Gen.Pre_swap_ReferenceIdeal
public import proofs.«01_k».proof.Proof.Gen.Pre_stay_ReferenceIdeal
public import proofs.«01_k».proof.Proof.Run
public import proofs.«01_k».proof.Proof.Reference
public import proofs.«01_k».proof.Proof.Equation
public import proofs.«01_k».proof.Proof.Same

@[expose] public section

noncomputable section

namespace Cert.Proof

open Idealize.ShloMosaic
open Idealize.ShloMosaic.TcCoe
open Cert.Exchange (Done run_main result_eq half table_of_swap table_of_stay tableOK_of_eq)
open Cert.Gathered (table moved)
open Cert.KernelIdeal (nD τ sig main_arg0 main_arg1 main_v1)

section AnyFloats

variable {F : FTy → Type} [FloatOps F] (m : (ℓ : Loc nD τ sig) → Buf (Elt F) ℓ) (ρ : Dev nD → PrngReg) (sw : Bool)

/-- With one of the two tables on every device, every execution ends with the arguments as they were and the semaphores at
    zero. -/
theorem kernel_frame (h : ∀ c : Dev nD, (m ((c : Thread nD τ).loc main_arg1) : IVec Cert.KernelIdeal.S2 32) = table sw) :
    θ_run (Cert.KernelIdeal.defs (F := F)) (onTc (τ := τ) (Cert.KernelIdeal.main (F := F))) ⟨m, fun _ => 0, ρ⟩ fun r =>
      (∀ c : Dev nD, r.2.mem ((c : Thread nD τ).loc main_arg0) = m ((c : Thread nD τ).loc main_arg0)
        ∧ r.2.mem ((c : Thread nD τ).loc main_arg1) = m ((c : Thread nD τ).loc main_arg1)) ∧ r.2.sem = fun _ => 0 :=
  (θ_run _ _ _).mono (fun _ hr => ⟨fun c => ⟨(hr.1 c).1, (hr.1 c).2.1⟩, hr.2⟩) (run_main m ρ sw (tableOK_of_eq m sw h))

/-- And where the devices hold the blocks of `x`, every device is left with its block of the moved rows of `x`. -/
theorem kernel_value (h : ∀ c : Dev nD, (m ((c : Thread nD τ).loc main_arg1) : IVec Cert.KernelIdeal.S2 32) = table sw)
    (x : (⟨3, ![2, 256, 256]⟩ : Shape).Idx → Elt F .bf16) (hx : ∀ c : Dev nD, m ((c : Thread nD τ).loc main_arg0) = half c x) :
    θ_run (Cert.KernelIdeal.defs (F := F)) (onTc (τ := τ) (Cert.KernelIdeal.main (F := F))) ⟨m, fun _ => 0, ρ⟩ fun r =>
      ∀ c : Dev nD, r.2.mem ((c : Thread nD τ).loc main_v1) = half c (moved sw x)
        ∧ r.2.mem ((c : Thread nD τ).loc main_arg0) = m ((c : Thread nD τ).loc main_arg0)
        ∧ r.2.mem ((c : Thread nD τ).loc main_arg1) = m ((c : Thread nD τ).loc main_arg1) :=
  (θ_run _ _ _).mono (fun _ hr c => ⟨(hr.1 c).2.2.trans (result_eq m ρ sw x hx c), (hr.1 c).1, (hr.1 c).2.1⟩)
    (run_main m ρ sw (tableOK_of_eq m sw h))

end AnyFloats

/-! ## The frames -/

/-- The kernel over bits is the same text: its frame is that of the kernel over any float values, at bits. -/
theorem kernel_frame_bits (m : (ℓ : Loc nD τ sig) → Buf (Elt Bits) ℓ) (ρ : Dev nD → PrngReg) (sw : Bool)
    (h : ∀ c : Dev nD, (m ((c : Thread nD τ).loc main_arg1) : IVec Cert.KernelIdeal.S2 32) = table sw) :
    θ_run (Cert.Kernel.defs (F := Bits)) (onTc (τ := τ) (Cert.Kernel.main (F := Bits))) ⟨m, fun _ => 0, ρ⟩ fun r =>
      (∀ c : Dev nD, r.2.mem ((c : Thread nD τ).loc main_arg0) = m ((c : Thread nD τ).loc main_arg0)
        ∧ r.2.mem ((c : Thread nD τ).loc main_arg1) = m ((c : Thread nD τ).loc main_arg1)) ∧ r.2.sem = fun _ => 0 := by
  rw [Cert.Same.tables]
  exact kernel_frame (F := Bits) m ρ sw h

/-- The kernel over bits, the table the exchange, -/
theorem frame_kernel : Cert.quiescent_Kernel := fun m ρ h =>
  kernel_frame_bits m ρ true fun c => table_of_swap _ _ (h c)

/-- and the identity; -/
theorem frame_kernel_stay : Cert.quiescent_Kernel_pre_stay_Kernel := fun m ρ h =>
  kernel_frame_bits m ρ false fun c => table_of_stay _ _ (h c)

/-- the kernel over real numbers, the table the exchange, -/
theorem frame_kernelIdeal : Cert.quiescent_KernelIdeal := fun m ρ h =>
  kernel_frame (F := Ideal) m ρ true fun c => table_of_swap _ _ (h c)

/-- and the identity; -/
theorem frame_kernelIdeal_stay : Cert.quiescent_KernelIdeal_pre_stay_Kernel := fun m ρ h =>
  kernel_frame (F := Ideal) m ρ false fun c => table_of_stay _ _ (h c)

/-- the reference, whatever it is given. -/
theorem frame_reference : Cert.quiescent_ReferenceIdeal := fun m ρ _ => Cert.Gathered.frame m ρ

/-- A claim that reads one of the two preconditions asks for the reference's frame under it, too. -/
theorem frame_reference_swap : Cert.quiescent_ReferenceIdeal_pre_swap_ReferenceIdeal := fun m ρ _ => Cert.Gathered.frame m ρ

/-- The same under the other. -/
theorem frame_reference_stay : Cert.quiescent_ReferenceIdeal_pre_stay_ReferenceIdeal := fun m ρ _ => Cert.Gathered.frame m ρ

/-! ## The values -/

/-- The two runs end in the same array, the table the exchange: the rows moved by it, -/
theorem value_swap : Cert.algebraic_KernelIdeal_ReferenceIdeal := fun m ρ m' ρ' hp hc =>
  ⟨moved true (m' ((0 : Dev Cert.ReferenceIdeal.nD).tc.loc Cert.ReferenceIdeal.main_arg0)),
    kernel_value (F := Ideal) m ρ true (fun c => table_of_swap _ _ (hp c)) _ fun c => (hc c).1,
    Cert.Gathered.run true m' ρ' ((hc 0).2.symm.trans (table_of_swap _ _ (hp 0)))⟩

/-- and the identity: the rows where they were. -/
theorem value_stay : Cert.algebraic_KernelIdeal_ReferenceIdeal_pre_stay_Kernel := fun m ρ m' ρ' hp hc =>
  ⟨moved false (m' ((0 : Dev Cert.ReferenceIdeal.nD).tc.loc Cert.ReferenceIdeal.main_arg0)),
    kernel_value (F := Ideal) m ρ false (fun c => table_of_stay _ _ (hp c)) _ fun c => (hc c).1,
    Cert.Gathered.run false m' ρ' ((hc 0).2.symm.trans (table_of_stay _ _ (hp 0)))⟩

/-! ## The claim -/

/-- The programs' side conditions hold, and with them every claim of `Defs.lean`. -/
theorem claim : Cert.Claim :=
  ⟨Cert.Kernel.Gen.facts, Cert.KernelIdeal.Gen.facts, Cert.ReferenceIdeal.Gen.facts, Cert.Pre_swap_Kernel.Gen.facts,
    Cert.Pre_stay_Kernel.Gen.facts, Cert.Pre_swap_ReferenceIdeal.Gen.facts, Cert.Pre_stay_ReferenceIdeal.Gen.facts,
    frame_kernel, frame_kernel_stay, frame_kernelIdeal, frame_kernelIdeal_stay,
    frame_reference, frame_reference_swap, frame_reference_stay, trivial, value_swap, value_stay⟩

end Cert.Proof

end
